-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_two_experts_KernelIdeal [hPre_two_experts_KernelIdeal : Cert.Pre_two_experts_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_two_experts_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_two_experts_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_two_experts_ReferenceIdeal [hPre_two_experts_ReferenceIdeal : Cert.Pre_two_experts_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_two_experts_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_two_experts_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_two_experts_KernelIdeal [hKernelIdeal : Cert.KernelIdeal.Facts] [hPre_two_experts_KernelIdeal : Cert.Pre_two_experts_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_two_experts_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_two_experts_ReferenceIdeal [hReferenceIdeal : Cert.ReferenceIdeal.Facts] [hPre_two_experts_ReferenceIdeal : Cert.Pre_two_experts_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_two_experts_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_two_experts_KernelIdeal [hKernelIdeal : Cert.KernelIdeal.Facts] [hReferenceIdeal : Cert.ReferenceIdeal.Facts] [hPre_two_experts_KernelIdeal : Cert.Pre_two_experts_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_two_experts_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![8, 256, 512]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 512]⟩ ⟨2, ![512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_two_experts_KernelIdeal : Cert.Pre_two_experts_KernelIdeal.Facts) (hPre_two_experts_ReferenceIdeal : Cert.Pre_two_experts_ReferenceIdeal.Facts),
    quiescent_Kernel (hKernel := hKernel)
    ∧ quiescent_KernelIdeal (hKernelIdeal := hKernelIdeal)
    ∧ quiescent_KernelIdeal_pre_two_experts_KernelIdeal (hKernelIdeal := hKernelIdeal) (hPre_two_experts_KernelIdeal := hPre_two_experts_KernelIdeal)
    ∧ quiescent_ReferenceIdeal (hReferenceIdeal := hReferenceIdeal)
    ∧ quiescent_ReferenceIdeal_pre_two_experts_ReferenceIdeal (hReferenceIdeal := hReferenceIdeal) (hPre_two_experts_ReferenceIdeal := hPre_two_experts_ReferenceIdeal)
    ∧ preserves_Kernel_KernelIdeal
    ∧ algebraic_KernelIdeal_ReferenceIdeal_pre_two_experts_KernelIdeal (hKernelIdeal := hKernelIdeal) (hReferenceIdeal := hReferenceIdeal) (hPre_two_experts_KernelIdeal := hPre_two_experts_KernelIdeal)
-- ==== Pre_two_experts_KernelIdeal.lean ====
abbrev S512x256 : Shape := ⟨2, ![512, 256]⟩
abbrev S256x8 : Shape := ⟨2, ![256, 8]⟩
abbrev S512x2 : Shape := ⟨2, ![512, 2]⟩
abbrev S2x256x512 : Shape := ⟨3, ![2, 256, 512]⟩
abbrev S512x1 : Shape := ⟨2, ![512, 1]⟩
abbrev S_ : Shape := ⟨0, ![]⟩

class Facts : Prop where
  slices_S512x2_S512x1_0_0 : S512x2.Slices ![0, 0] S512x1
  slices_S512x2_S512x1_0_1 : S512x2.Slices ![0, 1] S512x1
  bcast_S_S512x2 : S_.BroadcastsInDim S512x2 (![] : Fin 0 → Fin S512x2.rank)

variable [Facts]

def fn {F : FTy → Type} [FloatOps F] (main_arg0 : FVec F S512x256 .bf16) (main_arg1 : FVec F S256x8 .bf16) (main_arg2 : IVec S512x2 32) (main_arg3 : FVec F S2x256x512 .bf16) : IVec S512x2 1 × IVec S512x1 1 :=
  let main_v0 : IVec S512x1 32 := (extractStridedSlice S512x1 ![0, 0] · slices_S512x2_S512x1_0_0) main_arg2
  let main_v1 : IVec S512x1 32 := (extractStridedSlice S512x1 ![0, 1] · slices_S512x2_S512x1_0_1) main_arg2
  let main_c : IVec S_ 32 := constantI S_ 32 0#32
  let main_v2 : IVec S512x2 32 := broadcastInDim S512x2 ![] bcast_S_S512x2 main_c
  let main_v3 : IVec S512x2 1 := cmpi .sge main_arg2 main_v2
  let main_c_0 : IVec S_ 32 := constantI S_ 32 8#32
  let main_v4 : IVec S512x2 32 := broadcastInDim S512x2 ![] bcast_S_S512x2 main_c_0
  let main_v5 : IVec S512x2 1 := cmpi .slt main_arg2 main_v4
  let main_v6 : IVec S512x2 1 := andi main_v3 main_v5
  let main_v7 : IVec S512x1 1 := cmpi .ne main_v0 main_v1
  (main_v6, main_v7)
-- ==== Pre_two_experts_ReferenceIdeal.lean ====
abbrev S512x256 : Shape := ⟨2, ![512, 256]⟩
abbrev S256x8 : Shape := ⟨2, ![256, 8]⟩
abbrev S512x2 : Shape := ⟨2, ![512, 2]⟩
abbrev S8x256x512 : Shape := ⟨3, ![8, 256, 512]⟩
abbrev S512x1 : Shape := ⟨2, ![512, 1]⟩
abbrev S_ : Shape := ⟨0, ![]⟩

class Facts : Prop where
  slices_S512x2_S512x1_0_0 : S512x2.Slices ![0, 0] S512x1
  slices_S512x2_S512x1_0_1 : S512x2.Slices ![0, 1] S512x1
  bcast_S_S512x2 : S_.BroadcastsInDim S512x2 (![] : Fin 0 → Fin S512x2.rank)

variable [Facts]

def fn {F : FTy → Type} [FloatOps F] (main_arg0 : FVec F S512x256 .bf16) (main_arg1 : FVec F S256x8 .bf16) (main_arg2 : IVec S512x2 32) (main_arg3 : FVec F S8x256x512 .bf16) : IVec S512x2 1 × IVec S512x1 1 :=
  let main_v0 : IVec S512x1 32 := (extractStridedSlice S512x1 ![0, 0] · slices_S512x2_S512x1_0_0) main_arg2
  let main_v1 : IVec S512x1 32 := (extractStridedSlice S512x1 ![0, 1] · slices_S512x2_S512x1_0_1) main_arg2
  let main_c : IVec S_ 32 := constantI S_ 32 0#32
  let main_v2 : IVec S512x2 32 := broadcastInDim S512x2 ![] bcast_S_S512x2 main_c
  let main_v3 : IVec S512x2 1 := cmpi .sge main_arg2 main_v2
  let main_c_0 : IVec S_ 32 := constantI S_ 32 8#32
  let main_v4 : IVec S512x2 32 := broadcastInDim S512x2 ![] bcast_S_S512x2 main_c_0
  let main_v5 : IVec S512x2 1 := cmpi .slt main_arg2 main_v4
  let main_v6 : IVec S512x2 1 := andi main_v3 main_v5
  let main_v7 : IVec S512x1 1 := cmpi .ne main_v0 main_v1
  (main_v6, main_v7)
-- ==== Kernel.lean ====
abbrev S512x256 : Shape := ⟨2, ![512, 256]⟩
abbrev S256x8 : Shape := ⟨2, ![256, 8]⟩
abbrev S512x2 : Shape := ⟨2, ![512, 2]⟩
abbrev S2x256x512 : Shape := ⟨3, ![2, 256, 512]⟩
abbrev S128x512 : Shape := ⟨2, ![128, 512]⟩
abbrev S512x512 : Shape := ⟨2, ![512, 512]⟩
abbrev S3x128x512 : Shape := ⟨3, ![3, 128, 512]⟩
abbrev S3 : Shape := ⟨1, ![3]⟩
abbrev S512x8 : Shape := ⟨2, ![512, 8]⟩
abbrev S512 : Shape := ⟨1, ![512]⟩
abbrev S512x1 : Shape := ⟨2, ![512, 1]⟩
abbrev S1x256x512 : Shape := ⟨3, ![1, 256, 512]⟩
abbrev S256x512 : Shape := ⟨2, ![256, 512]⟩
abbrev S1x128x512 : Shape := ⟨3, ![1, 128, 512]⟩
abbrev S_ : Shape := ⟨0, ![]⟩
abbrev S1 : Shape := ⟨1, ![1]⟩

abbrev nBuf : Space → Nat
  | .hbm => 5
  | .vmem => 8
  | .smem => 0
  | _ => 0

abbrev bufTy : (tb : Table) → Fin (tcTables nBuf tb) → BufTy
  | .hbm, ⟨0, _⟩ => ⟨S512x256, .bf16⟩
  | .hbm, ⟨1, _⟩ => ⟨S256x8, .bf16⟩
  | .hbm, ⟨2, _⟩ => ⟨S512x2, .i32⟩
  | .hbm, ⟨3, _⟩ => ⟨S2x256x512, .bf16⟩
  | .hbm, ⟨4, _⟩ => ⟨S128x512, .f32⟩
  | .local _ .vmem, ⟨0, _⟩ => ⟨S512x256, .bf16⟩
  | .local _ .vmem, ⟨1, _⟩ => ⟨S256x8, .bf16⟩
  | .local _ .vmem, ⟨2, _⟩ => ⟨S512x2, .i32⟩
  | .local _ .vmem, ⟨3, _⟩ => ⟨S2x256x512, .bf16⟩
  | .local _ .vmem, ⟨4, _⟩ => ⟨S128x512, .f32⟩
  | .local _ .vmem, ⟨5, _⟩ => ⟨S512x512, .f32⟩
  | .local _ .vmem, ⟨6, _⟩ => ⟨S3x128x512, .bf16⟩
  | .local _ .vmem, ⟨7, _⟩ => ⟨S3x128x512, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 2 → Bool
  | ⟨0, _⟩ => false
  | ⟨1, _⟩ => true
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 2 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_off1 (d0 : Dev nD) (c1_i32_29 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v85 : BitVec 32 := Scalar.addi v2 c1_i32_29
  let c4_i32_30 : BitVec 32 := 4#32
  let v86 : BitVec 32 := Scalar.remsi v85 c4_i32_30
  let c128_i32 : BitVec 32 := 128#32
  let v87 : BitVec 32 := Scalar.muli v86 c128_i32
  let v88 : Index := Scalar.indexCast v87
  let c0_31 : Index := 0#32
  ![v88.toNat, 0]
def k0_dev1 (d0 : Dev nD) : Nat :=
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_47 : BitVec 32 := 1#32
  let v113 : BitVec 32 := Scalar.addi v2 c1_i32_47
  let c4_i32_48 : BitVec 32 := 4#32
  let v114 : BitVec 32 := Scalar.remsi v113 c4_i32_48
  let c1_i32_50 : BitVec 32 := 1#32
  let v115 : BitVec 32 := Scalar.muli v114 c1_i32_50
  let v116 : BitVec 32 := Scalar.addi c0_i32_51 v115
  v116.toNat
def k0_dev2 (d0 : Dev nD) : Nat :=
  let c0_i32_56 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_52 : BitVec 32 := 2#32
  let v117 : BitVec 32 := Scalar.addi v2 c2_i32_52
  let c4_i32_53 : BitVec 32 := 4#32
  let v118 : BitVec 32 := Scalar.remsi v117 c4_i32_53
  let c1_i32_55 : BitVec 32 := 1#32
  let v119 : BitVec 32 := Scalar.muli v118 c1_i32_55
  let v120 : BitVec 32 := Scalar.addi c0_i32_56 v119
  v120.toNat
def k0_dev3 (d0 : Dev nD) : Nat :=
  let c0_i32_61 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_57 : BitVec 32 := 3#32
  let v121 : BitVec 32 := Scalar.addi v2 c3_i32_57
  let c4_i32_58 : BitVec 32 := 4#32
  let v122 : BitVec 32 := Scalar.remsi v121 c4_i32_58
  let c1_i32_60 : BitVec 32 := 1#32
  let v123 : BitVec 32 := Scalar.muli v122 c1_i32_60
  let v124 : BitVec 32 := Scalar.addi c0_i32_61 v123
  v124.toNat
def k0_dev4 (d0 : Dev nD) : Nat :=
  let c0_i32_70 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_63 : BitVec 32 := 1#32
  let v125 : BitVec 32 := Scalar.addi v2 c1_i32_63
  let c4_i32_64 : BitVec 32 := 4#32
  let v126 : BitVec 32 := Scalar.remsi v125 c4_i32_64
  let c1_i32_69 : BitVec 32 := 1#32
  let v127 : BitVec 32 := Scalar.muli v126 c1_i32_69
  let v128 : BitVec 32 := Scalar.addi c0_i32_70 v127
  v128.toNat
def k0_dev5 (d0 : Dev nD) : Nat :=
  let c0_i32_82 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_75 : BitVec 32 := 2#32
  let v137 : BitVec 32 := Scalar.addi v2 c2_i32_75
  let c4_i32_76 : BitVec 32 := 4#32
  let v138 : BitVec 32 := Scalar.remsi v137 c4_i32_76
  let c1_i32_81 : BitVec 32 := 1#32
  let v139 : BitVec 32 := Scalar.muli v138 c1_i32_81
  let v140 : BitVec 32 := Scalar.addi c0_i32_82 v139
  v140.toNat
def k0_dev6 (d0 : Dev nD) : Nat :=
  let c0_i32_94 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_87 : BitVec 32 := 3#32
  let v149 : BitVec 32 := Scalar.addi v2 c3_i32_87
  let c4_i32_88 : BitVec 32 := 4#32
  let v150 : BitVec 32 := Scalar.remsi v149 c4_i32_88
  let c1_i32_93 : BitVec 32 := 1#32
  let v151 : BitVec 32 := Scalar.muli v150 c1_i32_93
  let v152 : BitVec 32 := Scalar.addi c0_i32_94 v151
  v152.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_129 : BitVec 32 := 128#32
  let v185 : BitVec 32 := Scalar.muli v2 c128_i32_129
  let v186 : Index := Scalar.indexCast v185
  let c0_130 : Index := 0#32
  ![v186.toNat, 0]
def k0_dev7 (d0 : Dev nD) : Nat :=
  let c0_i32_173_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_169_r0 : BitVec 32 := 1#32
  let v220_r0 : BitVec 32 := Scalar.addi v2 c1_i32_169_r0
  let c4_i32_170_r0 : BitVec 32 := 4#32
  let v221_r0 : BitVec 32 := Scalar.remsi v220_r0 c4_i32_170_r0
  let c1_i32_172_r0 : BitVec 32 := 1#32
  let v222_r0 : BitVec 32 := Scalar.muli v221_r0 c1_i32_172_r0
  let v223_r0 : BitVec 32 := Scalar.addi c0_i32_173_r0 v222_r0
  v223_r0.toNat
def k0_dev8 (d0 : Dev nD) : Nat :=
  let c0_i32_178_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_174_r0 : BitVec 32 := 2#32
  let v224_r0 : BitVec 32 := Scalar.addi v2 c2_i32_174_r0
  let c4_i32_175_r0 : BitVec 32 := 4#32
  let v225_r0 : BitVec 32 := Scalar.remsi v224_r0 c4_i32_175_r0
  let c1_i32_177_r0 : BitVec 32 := 1#32
  let v226_r0 : BitVec 32 := Scalar.muli v225_r0 c1_i32_177_r0
  let v227_r0 : BitVec 32 := Scalar.addi c0_i32_178_r0 v226_r0
  v227_r0.toNat
def k0_dev9 (d0 : Dev nD) : Nat :=
  let c0_i32_183_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_179_r0 : BitVec 32 := 3#32
  let v228_r0 : BitVec 32 := Scalar.addi v2 c3_i32_179_r0
  let c4_i32_180_r0 : BitVec 32 := 4#32
  let v229_r0 : BitVec 32 := Scalar.remsi v228_r0 c4_i32_180_r0
  let c1_i32_182_r0 : BitVec 32 := 1#32
  let v230_r0 : BitVec 32 := Scalar.muli v229_r0 c1_i32_182_r0
  let v231_r0 : BitVec 32 := Scalar.addi c0_i32_183_r0 v230_r0
  v231_r0.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S512x256 : Shape := ⟨2, ![512, 256]⟩
abbrev S256x8 : Shape := ⟨2, ![256, 8]⟩
abbrev S512x2 : Shape := ⟨2, ![512, 2]⟩
abbrev S8x256x512 : Shape := ⟨3, ![8, 256, 512]⟩
abbrev S512x8 : Shape := ⟨2, ![512, 8]⟩
abbrev S_ : Shape := ⟨0, ![]⟩
abbrev S512 : Shape := ⟨1, ![512]⟩
abbrev S512x1 : Shape := ⟨2, ![512, 1]⟩
abbrev S512x1x1 : Shape := ⟨3, ![512, 1, 1]⟩
abbrev S1 : Shape := ⟨1, ![1]⟩
abbrev S1x1x1 : Shape := ⟨3, ![1, 1, 1]⟩
abbrev S512x256x512 : Shape := ⟨3, ![512, 256, 512]⟩
abbrev S512x512 : Shape := ⟨2, ![512, 512]⟩

abbrev nBuf : Space → Nat
  | .hbm => 97
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S256x8, .bf16⟩
  | .hbm, ⟨2, _⟩ => ⟨S512x2, .i32⟩
  | .hbm, ⟨3, _⟩ => ⟨S8x256x512, .bf16⟩
  | .hbm, ⟨4, _⟩ => ⟨S512x256, .f32⟩
  | .hbm, ⟨5, _⟩ => ⟨S256x8, .f32⟩
  | .hbm, ⟨6, _⟩ => ⟨S512x8, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S512x8, .f32⟩
  | .hbm, ⟨11, _⟩ => ⟨S512x8, .f32⟩
  | .hbm, ⟨12, _⟩ => ⟨S512x8, .f32⟩
  | .hbm, ⟨13, _⟩ => ⟨S_, .f32⟩
  | .hbm, ⟨14, _⟩ => ⟨S512, .f32⟩
  | .hbm, ⟨15, _⟩ => ⟨S512x1, .f32⟩
  | .hbm, ⟨16, _⟩ => ⟨S512x8, .f32⟩
  | .hbm, ⟨17, _⟩ => ⟨S512x8, .f32⟩
  | .hbm, ⟨18, _⟩ => ⟨S512x1, .i32⟩
  | .hbm, ⟨19, _⟩ => ⟨S512x1, .i32⟩
  | .hbm, ⟨20, _⟩ => ⟨S_, .i32⟩
  | .hbm, ⟨21, _⟩ => ⟨S512x1, .i32⟩
  | .hbm, ⟨22, _⟩ => ⟨S512x1, .i1⟩
  | .hbm, ⟨23, _⟩ => ⟨S_, .i32⟩
  | .hbm, ⟨24, _⟩ => ⟨S512x1, .i32⟩
  | .hbm, ⟨25, _⟩ => ⟨S512x1, .i32⟩
  | .hbm, ⟨26, _⟩ => ⟨S512x1, .i32⟩
  | .hbm, ⟨27, _⟩ => ⟨S512x1x1, .i32⟩
  | .hbm, ⟨28, _⟩ => ⟨S1, .i32⟩
  | .hbm, ⟨29, _⟩ => ⟨S_, .i32⟩
  | .hbm, ⟨30, _⟩ => ⟨S512x1x1, .i32⟩
  | .hbm, ⟨31, _⟩ => ⟨S512x1x1, .i1⟩
  | .hbm, ⟨32, _⟩ => ⟨S1x1x1, .i32⟩
  | .hbm, ⟨33, _⟩ => ⟨S512x1x1, .i32⟩
  | .hbm, ⟨34, _⟩ => ⟨S512x1x1, .i1⟩
  | .hbm, ⟨35, _⟩ => ⟨S512x1x1, .i1⟩
  | .hbm, ⟨36, _⟩ => ⟨S_, .i1⟩
  | .hbm, ⟨37, _⟩ => ⟨S512x1, .i1⟩
  | .hbm, ⟨38, _⟩ => ⟨S512x1, .f32⟩
  | .hbm, ⟨39, _⟩ => ⟨S_, .f32⟩
  | .hbm, ⟨40, _⟩ => ⟨S512x1, .f32⟩
  | .hbm, ⟨41, _⟩ => ⟨S512x1, .f32⟩
  | .hbm, ⟨42, _⟩ => ⟨S_, .i32⟩
  | .hbm, ⟨43, _⟩ => ⟨S512x1, .i32⟩
  | .hbm, ⟨44, _⟩ => ⟨S512x1, .i1⟩
  | .hbm, ⟨45, _⟩ => ⟨S_, .i32⟩
  | .hbm, ⟨46, _⟩ => ⟨S512x1, .i32⟩
  | .hbm, ⟨47, _⟩ => ⟨S512x1, .i32⟩
  | .hbm, ⟨48, _⟩ => ⟨S512x1, .i32⟩
  | .hbm, ⟨49, _⟩ => ⟨S512x1x1, .i32⟩
  | .hbm, ⟨50, _⟩ => ⟨S1, .i32⟩
  | .hbm, ⟨51, _⟩ => ⟨S_, .i32⟩
  | .hbm, ⟨52, _⟩ => ⟨S512x1x1, .i32⟩
  | .hbm, ⟨53, _⟩ => ⟨S512x1x1, .i1⟩
  | .hbm, ⟨54, _⟩ => ⟨S1x1x1, .i32⟩
  | .hbm, ⟨55, _⟩ => ⟨S512x1x1, .i32⟩
  | .hbm, ⟨56, _⟩ => ⟨S512x1x1, .i1⟩
  | .hbm, ⟨57, _⟩ => ⟨S512x1x1, .i1⟩
  | .hbm, ⟨58, _⟩ => ⟨S_, .i1⟩
  | .hbm, ⟨59, _⟩ => ⟨S512x1, .i1⟩
  | .hbm, ⟨60, _⟩ => ⟨S512x1, .f32⟩
  | .hbm, ⟨61, _⟩ => ⟨S_, .f32⟩
  | .hbm, ⟨62, _⟩ => ⟨S512x1, .f32⟩
  | .hbm, ⟨63, _⟩ => ⟨S512x1, .f32⟩
  | .hbm, ⟨64, _⟩ => ⟨S512x1, .f32⟩
  | .hbm, ⟨65, _⟩ => ⟨S8x256x512, .f32⟩
  | .hbm, ⟨66, _⟩ => ⟨S512x1, .i32⟩
  | .hbm, ⟨67, _⟩ => ⟨S512, .i32⟩
  | .hbm, ⟨68, _⟩ => ⟨S_, .i32⟩
  | .hbm, ⟨69, _⟩ => ⟨S512, .i32⟩
  | .hbm, ⟨70, _⟩ => ⟨S512, .i1⟩
  | .hbm, ⟨71, _⟩ => ⟨S_, .i32⟩
  | .hbm, ⟨72, _⟩ => ⟨S512, .i32⟩
  | .hbm, ⟨73, _⟩ => ⟨S512, .i32⟩
  | .hbm, ⟨74, _⟩ => ⟨S512, .i32⟩
  | .hbm, ⟨75, _⟩ => ⟨S512x1, .i32⟩
  | .hbm, ⟨76, _⟩ => ⟨S512x256x512, .f32⟩
  | .hbm, ⟨77, _⟩ => ⟨S512x512, .f32⟩
  | .hbm, ⟨78, _⟩ => ⟨S512x1, .i32⟩
  | .hbm, ⟨79, _⟩ => ⟨S512, .i32⟩
  | .hbm, ⟨80, _⟩ => ⟨S_, .i32⟩
  | .hbm, ⟨81, _⟩ => ⟨S512, .i32⟩
  | .hbm, ⟨82, _⟩ => ⟨S512, .i1⟩
  | .hbm, ⟨83, _⟩ => ⟨S_, .i32⟩
  | .hbm, ⟨84, _⟩ => ⟨S512, .i32⟩
  | .hbm, ⟨85, _⟩ => ⟨S512, .i32⟩
  | .hbm, ⟨86, _⟩ => ⟨S512, .i32⟩
  | .hbm, ⟨87, _⟩ => ⟨S512x1, .i32⟩
  | .hbm, ⟨88, _⟩ => ⟨S512x256x512, .f32⟩
  | .hbm, ⟨89, _⟩ => ⟨S512x512, .f32⟩
  | .hbm, ⟨90, _⟩ => ⟨S512x1, .f32⟩
  | .hbm, ⟨91, _⟩ => ⟨S512x512, .f32⟩
  | .hbm, ⟨92, _⟩ => ⟨S512x512, .f32⟩
  | .hbm, ⟨93, _⟩ => ⟨S512x1, .f32⟩
  | .hbm, ⟨94, _⟩ => ⟨S512x512, .f32⟩
  | .hbm, ⟨95, _⟩ => ⟨S512x512, .f32⟩
  | .hbm, ⟨96, _⟩ => ⟨S512x512, .f32⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_cst : Ref sig .tc := ⟨.hbm, 39, rfl⟩
abbrev main_call0_v14 : Ref sig .tc := ⟨.hbm, 40, rfl⟩
abbrev main_v14 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_cst : Ref sig .tc := ⟨.hbm, 61, rfl⟩
abbrev main_call1_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_c : Ref sig .tc := ⟨.hbm, 68, rfl⟩
abbrev main_v20 : Ref sig .tc := ⟨.hbm, 69, rfl⟩
abbrev main_v21 : Ref sig .tc := ⟨.hbm, 70, rfl⟩
abbrev main_c_1 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_c_2 : Ref sig .tc := ⟨.hbm, 80, rfl⟩
abbrev main_v30 : Ref sig .tc := ⟨.hbm, 81, rfl⟩
abbrev main_v31 : Ref sig .tc := ⟨.hbm, 82, rfl⟩
abbrev main_c_3 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩

abbrev nD : Nat := 1
abbrev τ : Topo := Topo.v7x

variable {F : FTy → Type} [FloatOps F]
-- ==== Proof.KernelIdeal.Slots.lean ====
/- The two three-slot transfer buffers of the kernel: the slots as memrefs, how a whole buffer is cut into its
   slots and put together again, and what a load through the buffer reads of a slot that a store or a transfer
   filled. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the pipeline's rounds, and the rounds of this kernel's own cells (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The slots -/

theorem slot_inb (j : Fin 3) : ∀ a, (![j.val, 0, 0] : Fin 3 → Nat) a + S1x128x512.size a ≤ S3x128x512.size a := by
  revert j; decide
theorem slot_sem_inb (j : Fin 3) : ∀ a, (![j.val] : Fin 1 → Nat) a + S1.size a ≤ S3.size a := by
  revert j; decide

/-- Slot `j` of a three-slot buffer. -/
abbrev slotR (j : Fin 3) : Rect S3x128x512 := Rect.unit (s := S3x128x512) ![j.val, 0, 0] S1x128x512.size (slot_inb j)

abbrev sendM : Memref sig .tc .vmem S3x128x512 .bf16 := Memref.whole cc0_scratch1
abbrev recvM : Memref sig .tc .vmem S3x128x512 .bf16 := Memref.whole cc0_scratch2

/-- Slot `j` of the send and of the receive buffer, as the transfers name it. -/
abbrev sSlot (j : Fin 3) : Memref sig .tc .vmem S128x512 .bf16 :=
  (sendM.slice (slotR j) (fun _ => rfl)).squeeze S128x512 squeezes_S1x128x512_S128x512
abbrev rSlot (j : Fin 3) : Memref sig .tc .vmem S128x512 .bf16 :=
  (recvM.slice (slotR j) (fun _ => rfl)).squeeze S128x512 squeezes_S1x128x512_S128x512

/-- The semaphore of slot `j` of either. -/
abbrev sSem (j : Fin 3) : DmaSem sig :=
  (((cc0_scratch3 : DmaSems sig S3).slice (Rect.unit (s := S3) ![j.val] S1.size (slot_sem_inb j))).squeeze S_ squeezes_S1_S_).sem
abbrev rSem (j : Fin 3) : DmaSem sig :=
  (((cc0_scratch4 : DmaSems sig S3).slice (Rect.unit (s := S3) ![j.val] S1.size (slot_sem_inb j))).squeeze S_ squeezes_S1_S_).sem

theorem mem_slot (j : Fin 3) (i : S3x128x512.Idx) : i ∈ (slotR j).set ↔ (i 0).val = j.val := by
  rw [Rect.mem_set_unit]
  constructor
  · intro h
    have h0 := h 0
    have e1 : (![j.val, 0, 0] : Fin 3 → Nat) 0 = j.val := rfl
    have e2 : S1x128x512.size 0 = 1 := rfl
    rw [e1, e2] at h0
    omega
  · intro h a
    match a with
    | ⟨0, _⟩ => exact ⟨le_of_eq h.symm, by show (i 0).val < j.val + 1; omega⟩
    | ⟨1, _⟩ => exact ⟨Nat.zero_le _, by show (i 1).val < 0 + 128; have := (i 1).isLt; show _ < _; rw [Nat.zero_add]; exact this⟩
    | ⟨2, _⟩ => exact ⟨Nat.zero_le _, by show (i 2).val < 0 + 512; rw [Nat.zero_add]; exact (i 2).isLt⟩

theorem slots_disjoint {i j : Fin 3} (h : i ≠ j) : Disjoint (slotR i).set (slotR j).set := by
  rw [Finset.disjoint_left]
  intro x hi hj
  exact h (Fin.ext (((mem_slot i x).1 hi).symm.trans ((mem_slot j x).1 hj)))

theorem slots_univ : (slotR 0).set ∪ ((slotR 1).set ∪ (slotR 2).set) = (Finset.univ : Finset S3x128x512.Idx) := by
  refine Finset.eq_univ_of_forall fun x => ?_
  rw [Finset.mem_union, Finset.mem_union, mem_slot, mem_slot, mem_slot]
  have hx : (x 0).val < 3 := (x 0).isLt
  show (x 0).val = 0 ∨ (x 0).val = 1 ∨ (x 0).val = 2
  omega

theorem sSlot_set (j : Fin 3) : (sSlot j).view.set = (slotR j).set :=
  (View.set_reshape (v := (sendM.slice (slotR j) (fun _ => rfl)).view) squeezes_S1x128x512_S128x512.numel_eq).trans
    (View.set_slice_whole cc0_scratch1 (slotR j))
theorem rSlot_set (j : Fin 3) : (rSlot j).view.set = (slotR j).set :=
  (View.set_reshape (v := (recvM.slice (slotR j) (fun _ => rfl)).view) squeezes_S1x128x512_S128x512.numel_eq).trans
    (View.set_slice_whole cc0_scratch2 (slotR j))

/-- Slot `j` of device `c`'s send, or receive, buffer, at contents `f`. -/
def sPts (j : Fin 3) (c : Dev nD) (f : Buf (Elt F) ((sSlot j).view.loc (c : Thread nD τ))) : sProp 𝕄 :=
  (sSlot j).view.loc (c : Thread nD τ) ↦[(sSlot j).view.set]{fullShare} f
def rPts (j : Fin 3) (c : Dev nD) (f : Buf (Elt F) ((rSlot j).view.loc (c : Thread nD τ))) : sProp 𝕄 :=
  (rSlot j).view.loc (c : Thread nD τ) ↦[(rSlot j).view.set]{fullShare} f

omit [FloatOps F] in
instance sPts_storable (j : Fin 3) (c : Dev nD) (f) : BI.Storable (upEmb : UEmb _ 𝕄) (sPts (F := F) j c f) := by unfold sPts; infer_instance
omit [FloatOps F] in
instance rPts_storable (j : Fin 3) (c : Dev nD) (f) : BI.Storable (upEmb : UEmb _ 𝕄) (rPts (F := F) j c f) := by unfold rPts; infer_instance

/-- Slot `j` of device `c`'s send buffer, holding `p`. -/
def sHolds (j : Fin 3) (c : Dev nD) (p : Vec F S1x128x512 .bf16) : sProp 𝕄 :=
  iprop(∃ f, ⌜sendM.view.readAt (Elt F) (slotR j).toLoadRect f = p⌝ ∗ sPts j c f)
/-- Slot `j` of device `c`'s receive buffer, holding `p`. -/
def rHolds (j : Fin 3) (c : Dev nD) (p : Vec F S1x128x512 .bf16) : sProp 𝕄 :=
  iprop(∃ f, ⌜recvM.view.readAt (Elt F) (slotR j).toLoadRect f = p⌝ ∗ rPts j c f)

omit [FloatOps F] in
instance rHolds_storable (j : Fin 3) (c : Dev nD) (p) : BI.Storable (upEmb : UEmb _ 𝕄) (rHolds (F := F) j c p) := by unfold rHolds; infer_instance

/-! ## Cutting a buffer into its slots and putting it together -/

omit [FloatOps F] in
theorem cut_send (c : Dev nD) (f : Buf (Elt F) ((c : Thread nD τ).loc cc0_scratch1)) :
    (((c : Thread nD τ).loc cc0_scratch1) ↦{fullShare} f : sProp 𝕄) ⊢ iprop(sPts 0 c f ∗ sPts 1 c f ∗ sPts 2 c f) := by
  unfold sPts
  rw [sSlot_set, sSlot_set, sSlot_set]
  have d : Disjoint (slotR 0).set ((slotR 1).set ∪ (slotR 2).set) :=
    Finset.disjoint_union_right.2 ⟨slots_disjoint (by decide), slots_disjoint (by decide)⟩
  refine (Entails.of_eq (by rw [← slots_univ])).trans ((pointsTo_union d).1.trans ?_)
  exact sep_mono_right (pointsTo_union (slots_disjoint (by decide))).1

omit [FloatOps F] in
theorem cut_recv (c : Dev nD) (f : Buf (Elt F) ((c : Thread nD τ).loc cc0_scratch2)) :
    (((c : Thread nD τ).loc cc0_scratch2) ↦{fullShare} f : sProp 𝕄) ⊢ iprop(rPts 0 c f ∗ rPts 1 c f ∗ rPts 2 c f) := by
  unfold rPts
  rw [rSlot_set, rSlot_set, rSlot_set]
  have d : Disjoint (slotR 0).set ((slotR 1).set ∪ (slotR 2).set) :=
    Finset.disjoint_union_right.2 ⟨slots_disjoint (by decide), slots_disjoint (by decide)⟩
  refine (Entails.of_eq (by rw [← slots_univ])).trans ((pointsTo_union d).1.trans ?_)
  exact sep_mono_right (pointsTo_union (slots_disjoint (by decide))).1

omit [FloatOps F] in
theorem join_send (c : Dev nD) (f g h : Buf (Elt F) ((c : Thread nD τ).loc cc0_scratch1)) :
    iprop(sPts 0 c f ∗ sPts 1 c g ∗ sPts 2 c h) ⊢ (iprop(∃ k, ((c : Thread nD τ).loc cc0_scratch1) ↦{fullShare} k) : sProp 𝕄) := by
  unfold sPts
  rw [sSlot_set, sSlot_set, sSlot_set]
  have d : Disjoint (slotR 0).set ((slotR 1).set ∪ (slotR 2).set) :=
    Finset.disjoint_union_right.2 ⟨slots_disjoint (by decide), slots_disjoint (by decide)⟩
  refine (sep_mono_right (pointsTo_join (slots_disjoint (by decide)))).trans ((pointsTo_join d).trans ?_)
  rw [slots_univ]
  exact exists_intro _

omit [FloatOps F] in
theorem join_recv (c : Dev nD) (f g h : Buf (Elt F) ((c : Thread nD τ).loc cc0_scratch2)) :
    iprop(rPts 0 c f ∗ rPts 1 c g ∗ rPts 2 c h) ⊢ (iprop(∃ k, ((c : Thread nD τ).loc cc0_scratch2) ↦{fullShare} k) : sProp 𝕄) := by
  unfold rPts
  rw [rSlot_set, rSlot_set, rSlot_set]
  have d : Disjoint (slotR 0).set ((slotR 1).set ∪ (slotR 2).set) :=
    Finset.disjoint_union_right.2 ⟨slots_disjoint (by decide), slots_disjoint (by decide)⟩
  refine (sep_mono_right (pointsTo_join (slots_disjoint (by decide)))).trans ((pointsTo_join d).trans ?_)
  rw [slots_univ]
  exact exists_intro _

/-! ## What a filled slot reads -/

/-- A slot vector is its squeeze, cast back. -/
theorem squeeze_inj {α : Type} {p q : S1x128x512.Idx → α}
    (h : shapeCast S128x512 p squeezes_S1x128x512_S128x512.numel_eq = shapeCast S128x512 q squeezes_S1x128x512_S128x512.numel_eq) : p = q := by
  funext y
  have := congrFun h ((Shape.reshapeEquiv squeezes_S1x128x512_S128x512.numel_eq).symm y)
  simpa [shapeCast] using this

omit [FloatOps F] in
/-- Reading back a store of slot `j`. -/
theorem read_store (j : Fin 3) (f : (cc0_scratch1 : Ref sig .tc).ty.Contents (Elt F)) (p : Vec F S1x128x512 .bf16) :
    sendM.view.readAt (Elt F) (slotR j).toLoadRect
      ((sendM.access (slotR j) : View sig .tc _ _ _).write (Elt F) f p Finset.univ) = p :=
  View.read_write_univ (v := sendM.access (slotR j)) f p

omit [FloatOps F] in
/-- Slot `j` holds what was stored to it. -/
theorem sHolds_store (j : Fin 3) (c : Dev nD) (f : Buf (Elt F) ((c : Thread nD τ).loc cc0_scratch1)) (p q : Vec F S1x128x512 .bf16) (hq : p = q) :
    (((sendM.access (slotR j)).loc (c : Thread nD τ)) ↦[(sSlot j).view.set]{fullShare}
        ((sendM.access (slotR j) : View sig .tc _ _ _).write (Elt F) f p Finset.univ) : sProp 𝕄)
      ⊢ sHolds j c q := by
  subst hq
  unfold sHolds sPts
  iintro H
  iexists ((sendM.access (slotR j) : View sig .tc _ _ _).write (Elt F) f p Finset.univ)
  isplitr
  · ipureintro; exact read_store j f p
  iexact H

omit [FloatOps F] in
/-- A transfer from slot `i` of the send buffer into slot `j` of the receive buffer moves the slot vector. -/
theorem read_landed (i j : Fin 3) (fd : (cc0_scratch2 : Ref sig .tc).ty.Contents (Elt F)) (fs : (cc0_scratch1 : Ref sig .tc).ty.Contents (Elt F)) :
    recvM.view.readAt (Elt F) (slotR j).toLoadRect
      ((rSlot j).view.write (Elt F) fd ((sSlot i).view.read (Elt F) fs) Finset.univ)
      = sendM.view.readAt (Elt F) (slotR i).toLoadRect fs := by
  apply squeeze_inj
  have h := View.read_write_univ (v := (rSlot j).view) fd ((sSlot i).view.read (Elt F) fs)
  exact h

omit [FloatOps F] in
theorem sSlot_access (j : Fin 3) : (sendM.access (slotR j) : View sig .tc _ _ _).set = (sSlot j).view.set := by
  rw [sSlot_set]; exact View.set_slice_whole cc0_scratch1 (slotR j)
omit [FloatOps F] in
theorem sSlot_setOn (j : Fin 3) : (sendM.access (slotR j) : View sig .tc _ _ _).setOn Finset.univ ⊆ (sSlot j).view.set :=
  (sSlot_access j).le
omit [FloatOps F] in
theorem sSlot_loads (j : Fin 3) : sendM.view.setOn (slotR j).toLoadRect.set ⊆ (sSlot j).view.set := by
  rw [sSlot_set]
  exact (Finset.map_refl (s := (slotR j).set)).le
omit [FloatOps F] in
theorem rSlot_loads (j : Fin 3) : recvM.view.setOn (slotR j).toLoadRect.set ⊆ (rSlot j).view.set := by
  rw [rSlot_set]
  exact (Finset.map_refl (s := (slotR j).set)).le

end Cert.KernelIdeal.Moe
end
-- ==== Proof.KernelIdeal.Protocol.lean ====
/- What the four devices agree on.

   Device `c` talks to the devices one, two and three further round the ring, `up 0 c`, `up 1 c`, `up 2 c`.  Four sorts of
   semaphore cell take part, each used in one round:

   * the barrier cell of `c`: three signals, one from each other device; the one from `dn r c` hands over slot `r` of that
     device's receive buffer, the slot `c` will write there;
   * the receive cell of slot `j` of `c`: the landing of the chunk that `up j c` sends, which hands over the slot, filled;
   * the send cell of slot `r` of `c`: the departure of the transfer, which hands the send slot back;
   * the exit cell of `c`: three signals, one from each other device, which hand over nothing.

   A device waits on its barrier cell while it owes landings and exit signals, on its receive cells while it owes exit
   signals, and on its exit cell owing nothing: the levels are barrier 1, receive 2, exit 3, all else 0. -/
module

public import proofs.«01_k».proof.Proof.KernelIdeal.Slots

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The ring -/

set_option backward.proofsInPublic true in
/-- The device `r + 1` places further. -/
def up (r : Fin 3) (c : Dev nD) : Dev nD := ⟨(c.val + r.val + 1) % 4, Nat.mod_lt _ (by decide)⟩
set_option backward.proofsInPublic true in
/-- The device `r + 1` places back. -/
def dn (r : Fin 3) (c : Dev nD) : Dev nD := ⟨(c.val + (3 - r.val)) % 4, Nat.mod_lt _ (by decide)⟩

theorem dn_up (r : Fin 3) (c : Dev nD) : dn r (up r c) = c := by revert r c; decide
theorem up_dn (r : Fin 3) (c : Dev nD) : up r (dn r c) = c := by revert r c; decide
/-- Three places back is one place on, and so on. -/
theorem dn_rev (r : Fin 3) (c : Dev nD) : dn r.rev c = up r c := by revert r c; decide
theorem up_rev_up (r : Fin 3) (c : Dev nD) : up r.rev (up r c) = c := by revert r c; decide

def shift (r : Fin 3) : Dev nD ≃ Dev nD := ⟨up r, dn r, dn_up r, up_dn r⟩

theorem dev1_eq (c : Dev nD) : (⟨k0_dev1 c, k0_dev1_lt c⟩ : Dev nD) = up 0 c := Fin.ext (k0_dev1_eq c)
theorem dev2_eq (c : Dev nD) : (⟨k0_dev2 c, k0_dev2_lt c⟩ : Dev nD) = up 1 c := Fin.ext (k0_dev2_eq c)
theorem dev3_eq (c : Dev nD) : (⟨k0_dev3 c, k0_dev3_lt c⟩ : Dev nD) = up 2 c := Fin.ext (k0_dev3_eq c)
theorem dev4_eq (c : Dev nD) : (⟨k0_dev4 c, k0_dev4_lt c⟩ : Dev nD) = up 0 c := Fin.ext (k0_dev4_eq c)
theorem dev5_eq (c : Dev nD) : (⟨k0_dev5 c, k0_dev5_lt c⟩ : Dev nD) = up 1 c := Fin.ext (k0_dev5_eq c)
theorem dev6_eq (c : Dev nD) : (⟨k0_dev6 c, k0_dev6_lt c⟩ : Dev nD) = up 2 c := Fin.ext (k0_dev6_eq c)
theorem dev7_eq (c : Dev nD) : (⟨k0_dev7 c, k0_dev7_lt c⟩ : Dev nD) = up 0 c := Fin.ext (k0_dev7_eq c)
theorem dev8_eq (c : Dev nD) : (⟨k0_dev8 c, k0_dev8_lt c⟩ : Dev nD) = up 1 c := Fin.ext (k0_dev8_eq c)
theorem dev9_eq (c : Dev nD) : (⟨k0_dev9 c, k0_dev9_lt c⟩ : Dev nD) = up 2 c := Fin.ext (k0_dev9_eq c)

/-! ## The cells -/

abbrev barS : Sem sig := (SemArray.scalar (sig.barrier 0 rfl) : Sems sig S_).sem
abbrev exitS : Sem sig := (cc0_scoped0 : Sems sig S_).sem

abbrev barC (c : Dev nD) : GSem nD τ sig := ((c : Thread nD τ), .reg barS)
abbrev exitC (c : Dev nD) : GSem nD τ sig := ((c : Thread nD τ), .reg exitS)
abbrev sendC (j : Fin 3) (c : Dev nD) : GSem nD τ sig := ((c : Thread nD τ), .dma (sSem j))
abbrev recvC (j : Fin 3) (c : Dev nD) : GSem nD τ sig := ((c : Thread nD τ), .dma (rSem j))

/-- What a semaphore of a device is for. -/
inductive Role | bar | exit | send (j : Fin 3) | recv (j : Fin 3) | other
  deriving DecidableEq

def role : SemLoc sig → Role
  | .reg s => if s.val = 0 then .bar else .exit
  | .dma s =>
    if s.val < 5 then .other else if h : s.val < 8 then .send ⟨(s.val - 5) % 3, Nat.mod_lt _ (by decide)⟩
    else .recv ⟨(s.val - 8) % 3, Nat.mod_lt _ (by decide)⟩

theorem role_bar : role (.reg barS) = .bar := by decide
theorem role_exit : role (.reg exitS) = .exit := by decide
theorem role_send (j : Fin 3) : role (.dma (sSem j)) = .send j := by revert j; decide
theorem role_recv (j : Fin 3) : role (.dma (rSem j)) = .recv j := by revert j; decide

/-- The kernel's own cells of one device, listed: barrier, exit, the send cells, the receive cells. -/
abbrev csem : Fin 8 → SemLoc sig := fun
  | 0 => .reg barS | 1 => .reg exitS | 2 => .dma (sSem 0) | 3 => .dma (sSem 1) | 4 => .dma (sSem 2)
  | 5 => .dma (rSem 0) | 6 => .dma (rSem 1) | 7 => .dma (rSem 2)
abbrev kcell (ck : Dev nD × Fin 8) : GSem nD τ sig := ((ck.1 : Thread nD τ), csem ck.2)

def sI (j : Fin 3) : Fin 8 := ⟨2 + j.val, by omega⟩
def rI (j : Fin 3) : Fin 8 := ⟨5 + j.val, by omega⟩
theorem kcell_send (j : Fin 3) (c : Dev nD) : kcell (c, sI j) = sendC j c := by
  match j with | 0 => rfl | 1 => rfl | 2 => rfl
theorem kcell_recv (j : Fin 3) (c : Dev nD) : kcell (c, rI j) = recvC j c := by
  match j with | 0 => rfl | 1 => rfl | 2 => rfl

/-- What one chunk's transfer counts on its semaphores. -/
def N : ℕ := (rSlot 0).view.dmaCredit
theorem N_pos : 0 < N := View.dmaCredit_pos _ (by decide)
theorem credit_recv (j : Fin 3) : (rSlot j).view.dmaCredit = N := rfl
theorem credit_send (j : Fin 3) : (sSlot j).view.dmaCredit = N := rfl

/-! ## Contents -/

variable (m : (ℓ : Loc nD τ sig) → Buf (Elt F) ℓ) (ρ : Dev nD → PrngReg)

/-- Device `c`'s blocks of the four arguments, as they are staged. -/
def xB (c : Dev nD) : (cc0_stg0_0 : Ref sig .tc).ty.Contents (Elt F) :=
  (win0_0.blk (0 : Fin 1)).view.read (Elt F) (m ((c : Thread nD τ).loc main_arg0))
def wB (c : Dev nD) : (cc0_stg1_0 : Ref sig .tc).ty.Contents (Elt F) :=
  (win0_1.blk (0 : Fin 1)).view.read (Elt F) (m ((c : Thread nD τ).loc main_arg1))
def iB (c : Dev nD) : (cc0_stg2_0 : Ref sig .tc).ty.Contents (Elt F) :=
  (win0_2.blk (0 : Fin 1)).view.read (Elt F) (m ((c : Thread nD τ).loc main_arg2))
def eB (c : Dev nD) : (cc0_stg3_0 : Ref sig .tc).ty.Contents (Elt F) :=
  (win0_3.blk (0 : Fin 1)).view.read (Elt F) (m ((c : Thread nD τ).loc main_arg3))

abbrev xM : Memref sig .tc .vmem S512x256 .bf16 := Memref.whole cc0_stg0_0
abbrev wM : Memref sig .tc .vmem S256x8 .bf16 := Memref.whole cc0_stg1_0
abbrev iM : Memref sig .tc .vmem S512x2 .i32 := Memref.whole cc0_stg2_0
abbrev eM : Memref sig .tc .vmem S2x256x512 .bf16 := Memref.whole cc0_stg3_0
abbrev oM : Memref sig .tc .vmem S128x512 .f32 := Memref.whole cc0_stg4_0
abbrev aM : Memref sig .tc .vmem S512x512 .f32 := Memref.whole cc0_scratch0

/-- The two columns of the expert numbers. -/
def idx0 (f : (cc0_stg2_0 : Ref sig .tc).ty.Contents (Elt F)) : Vec F S512x1 .i32 :=
  iM.view.readAt (Elt F) (Rect.unit (s := S512x2) ![0, 0] S512x1.size inb_S512x2_S512x1_0_0).toLoadRect f
def idx1 (f : (cc0_stg2_0 : Ref sig .tc).ty.Contents (Elt F)) : Vec F S512x1 .i32 :=
  iM.view.readAt (Elt F) (Rect.unit (s := S512x2) ![0, 1] S512x1.size inb_S512x2_S512x1_0_1).toLoadRect f

/-- The two experts' matrices a device holds. -/
def exp0 (f : (cc0_stg3_0 : Ref sig .tc).ty.Contents (Elt F)) : Vec F S1x256x512 .bf16 :=
  eM.view.readAt (Elt F) (Rect.unit (s := S2x256x512) ![0, 0, 0] S1x256x512.size inb_S2x256x512_S1x256x512_0_0_0).toLoadRect f
def exp1 (f : (cc0_stg3_0 : Ref sig .tc).ty.Contents (Elt F)) : Vec F S1x256x512 .bf16 :=
  eM.view.readAt (Elt F) (Rect.unit (s := S2x256x512) ![1, 0, 0] S1x256x512.size inb_S2x256x512_S1x256x512_1_0_0).toLoadRect f

/-- The device's number, as the kernel computes it. -/
def word (c : Dev nD) : BitVec 32 := Scalar.remsi (Scalar.divsi (Dev.word c) 1#32) 4#32

/-- What device `c` accumulates from the four staged blocks: for every token the weighted outputs of its two experts. -/
def accOf (c : Dev nD) (x : Vec F S512x256 .bf16) (w : Vec F S256x8 .bf16) (i0 i1 : Vec F S512x1 .i32)
    (e0 e1 : Vec F S1x256x512 .bf16) : FVec F S512x512 .f32 :=
  k0_pay9 (k0_pay8 (word c) (k0_pay1 x) (k0_pay2 x w) (k0_pay3 (F := F) i0) (k0_pay4 (F := F) i1) (iota .tc S512x8 32 [1] iota_S512x8_d1_w32)
    (k0_pay5 x w i0 i1) (k0_pay6 (F := F)) (Scalar.addi (Scalar.muli (word c) 2#32) 0#32) (k0_pay7 c) e0 e1)

def accB (c : Dev nD) : (cc0_scratch0 : Ref sig .tc).ty.Contents (Elt F) :=
  accOf c (xB m c) (wB m c) (idx0 (iB m c)) (idx1 (iB m c)) (exp0 (eB m c)) (exp1 (eB m c))

/-- The chunk of an accumulator that device `c` sends in its transfer `r`: the tokens of device `up r c`. -/
def chunk (r : Fin 3) (c : Dev nD) (f : (cc0_scratch0 : Ref sig .tc).ty.Contents (Elt F)) : Vec F S128x512 .f32 :=
  aM.view.readAt (Elt F) (Rect.unit (s := S512x512) (k0_off1 c (BitVec.ofNat 32 (1 + r.val))) S128x512.size (k0_off1_inb c r)).toLoadRect f
/-- The chunk it keeps: its own tokens. -/
def keep (c : Dev nD) (f : (cc0_scratch0 : Ref sig .tc).ty.Contents (Elt F)) : Vec F S128x512 .f32 :=
  aM.view.readAt (Elt F) (Rect.unit (s := S512x512) (k0_off2 c) S128x512.size (k0_off2_inb c)).toLoadRect f

/-- What device `c` sends in its transfer `r`. -/
def sent (r : Fin 3) (c : Dev nD) : Vec F S1x128x512 .bf16 := k0_pay10 (chunk r c (accB m c))

/-- What arrives in slot `j` of device `c`. -/
def arrived (j : Fin 3) (c : Dev nD) : Vec F S1x128x512 .bf16 := sent m j.rev (up j c)

/-- The kernel's result on device `c`. -/
def outB (c : Dev nD) : (cc0_stg4_0 : Ref sig .tc).ty.Contents (Elt F) :=
  k0_pay14 (k0_pay13 (keep c (accB m c)) (arrived m 0 c) (arrived m 1 c)) (arrived m 2 c)

/-! ## The schedule -/

/-- The signal from `dn d c`: that device's receive slot `d`. -/
def barPay (d : Fin 3) (c : Dev nD) : sProp 𝕄 := iprop(∃ f, rPts d (dn d c) f)

def payOf (c : Dev nD) (d : Fin 3) : Role → sProp 𝕄
  | .bar => barPay d c
  | .exit => iprop(emp)
  | .send j => iprop(∃ f, sPts j c f)
  | .recv j => rHolds j c (arrived m j c)
  | .other => iprop(emp)

def dutiesOf : Role → Finset (Fin 3)
  | .bar => Finset.univ
  | .exit => Finset.univ
  | .send _ => {0}
  | .recv _ => {0}
  | .other => ∅

def amountOf : Role → ℕ
  | .bar => 1
  | .exit => 1
  | _ => N

theorem amountOf_pos (r : Role) : 0 < amountOf r := by cases r <;> first | exact Nat.one_pos | exact N_pos

def Rd : Rounds.Schedule (GSem nD τ sig) (Fin 3) 𝕄 where
  duties g r := if r = 0 ∧ g.1.2 = .tc then dutiesOf (role g.2) else ∅
  unitless _ := False
  amount g _ _ := amountOf (role g.2)
  payload g _ d := payOf m g.1.1 d (role g.2)
  amount_pos g _ _ _ := amountOf_pos _

instance payOf_storable (c : Dev nD) (d : Fin 3) (r : Role) : BI.Storable (upEmb : UEmb _ 𝕄) (payOf m c d r) := by
  cases r <;> unfold payOf <;> first | infer_instance | (unfold barPay; infer_instance)
instance Rd_payload_storable (g : GSem nD τ sig) (r : ℕ) (d : Fin 3) :
    BI.Storable (upEmb : UEmb _ 𝕄) ((Rd (F := F) m).payload g r d) := payOf_storable m g.1.1 d (role g.2)

theorem duties_of (c : Dev nD) (sm : SemLoc sig) : (Rd (F := F) m).duties ((c : Thread nD τ), sm) 0 = dutiesOf (role sm) := by
  dsimp only [Rd]; exact if_pos ⟨rfl, rfl⟩
theorem duties_later (g : GSem nD τ sig) : ∀ r, 1 ≤ r → (Rd (F := F) m).duties g r = ∅ :=
  fun r hr => by dsimp only [Rd]; exact if_neg fun h => by omega

theorem duties_bar (c : Dev nD) : (Rd (F := F) m).duties (barC c) 0 = Finset.univ := by rw [duties_of, role_bar]; rfl
theorem duties_exit (c : Dev nD) : (Rd (F := F) m).duties (exitC c) 0 = Finset.univ := by rw [duties_of, role_exit]; rfl
theorem duties_send (j : Fin 3) (c : Dev nD) : (Rd (F := F) m).duties (sendC j c) 0 = {0} := by rw [duties_of, role_send]; rfl
theorem duties_recv (j : Fin 3) (c : Dev nD) : (Rd (F := F) m).duties (recvC j c) 0 = {0} := by rw [duties_of, role_recv]; rfl

theorem amount_bar (c : Dev nD) (d : Fin 3) : (Rd (F := F) m).amount (barC c) 0 d = 1 := by
  show amountOf (role (.reg barS)) = 1; rw [role_bar]; rfl
theorem amount_exit (c : Dev nD) (d : Fin 3) : (Rd (F := F) m).amount (exitC c) 0 d = 1 := by
  show amountOf (role (.reg exitS)) = 1; rw [role_exit]; rfl
theorem amount_send (j : Fin 3) (c : Dev nD) (d : Fin 3) : (Rd (F := F) m).amount (sendC j c) 0 d = N := by
  show amountOf (role (.dma (sSem j))) = N; rw [role_send]; rfl
theorem amount_recv (j : Fin 3) (c : Dev nD) (d : Fin 3) : (Rd (F := F) m).amount (recvC j c) 0 d = N := by
  show amountOf (role (.dma (rSem j))) = N; rw [role_recv]; rfl

theorem expect_bar (c : Dev nD) : (Rd (F := F) m).expect (barC c) 0 = 3 := by
  unfold Schedule.expect Schedule.amountOf
  rw [duties_bar, Finset.sum_congr rfl fun d _ => amount_bar m c d]; rfl
theorem expect_exit (c : Dev nD) : (Rd (F := F) m).expect (exitC c) 0 = 3 := by
  unfold Schedule.expect Schedule.amountOf
  rw [duties_exit, Finset.sum_congr rfl fun d _ => amount_exit m c d]; rfl
theorem expect_send (j : Fin 3) (c : Dev nD) : (Rd (F := F) m).expect (sendC j c) 0 = N := by
  unfold Schedule.expect Schedule.amountOf; rw [duties_send, Finset.sum_singleton, amount_send]
theorem expect_recv (j : Fin 3) (c : Dev nD) : (Rd (F := F) m).expect (recvC j c) 0 = N := by
  unfold Schedule.expect Schedule.amountOf; rw [duties_recv, Finset.sum_singleton, amount_recv]

theorem payload_bar (c : Dev nD) (d : Fin 3) : (Rd (F := F) m).payload (barC c) 0 d = barPay d c := by
  show payOf m c d (role (.reg barS)) = _; rw [role_bar]; rfl
theorem payload_exit (c : Dev nD) (d : Fin 3) : (Rd (F := F) m).payload (exitC c) 0 d = iprop(emp) := by
  show payOf m c d (role (.reg exitS)) = _; rw [role_exit]; rfl
theorem payload_send (j : Fin 3) (c : Dev nD) (d : Fin 3) : (Rd (F := F) m).payload (sendC j c) 0 d = iprop(∃ f, sPts j c f) := by
  show payOf m c d (role (.dma (sSem j))) = _; rw [role_send]; rfl
theorem payload_recv (j : Fin 3) (c : Dev nD) (d : Fin 3) : (Rd (F := F) m).payload (recvC j c) 0 d = rHolds j c (arrived m j c) := by
  show payOf m c d (role (.dma (rSem j))) = _; rw [role_recv]; rfl

/-- What a whole round of each sort of cell hands over. -/
theorem rest_bar (c : Dev nD) : bigSep ((Rd (F := F) m).duties (barC c) 0 \ ∅) (fun d => (Rd (F := F) m).payload (barC c) 0 d)
    = iprop(barPay 0 c ∗ barPay 1 c ∗ barPay 2 c) := by
  rw [Finset.sdiff_empty, duties_bar, bigSep_univ_eq_bigSepL [0, 1, 2] (by decide) (by decide), bigSepL_cons_cons, bigSepL_cons_cons, bigSepL_singleton,
    payload_bar, payload_bar, payload_bar]
  rfl
theorem rest_send (j : Fin 3) (c : Dev nD) : bigSep ((Rd (F := F) m).duties (sendC j c) 0 \ ∅) (fun d => (Rd (F := F) m).payload (sendC j c) 0 d)
    = iprop(∃ f, sPts j c f) := by
  rw [Finset.sdiff_empty, duties_send, bigSep_singleton, payload_send]
theorem rest_recv (j : Fin 3) (c : Dev nD) : bigSep ((Rd (F := F) m).duties (recvC j c) 0 \ ∅) (fun d => (Rd (F := F) m).payload (recvC j c) 0 d)
    = rHolds j c (arrived m j c) := by
  rw [Finset.sdiff_empty, duties_recv, bigSep_singleton, payload_recv]

/-! ## What each device owes at launch; the levels -/

/-- Device `c`'s debts, the one paid first summed last: three barrier signals, three landings, three exit signals. -/
def E3 (c : Dev nD) : CellTallies nD τ sig Unit := 0 + tallyAt (exitC (up 2 c)) () 1
def E2 (c : Dev nD) : CellTallies nD τ sig Unit := E3 c + tallyAt (exitC (up 1 c)) () 1
def E1 (c : Dev nD) : CellTallies nD τ sig Unit := E2 c + tallyAt (exitC (up 0 c)) () 1
def R3 (c : Dev nD) : CellTallies nD τ sig Unit := E1 c + tallyAt (recvC 0 (up 2 c)) () N
def R2 (c : Dev nD) : CellTallies nD τ sig Unit := R3 c + tallyAt (recvC 1 (up 1 c)) () N
def R1 (c : Dev nD) : CellTallies nD τ sig Unit := R2 c + tallyAt (recvC 2 (up 0 c)) () N
def B3 (c : Dev nD) : CellTallies nD τ sig Unit := R1 c + tallyAt (barC (up 2 c)) () 1
def B2 (c : Dev nD) : CellTallies nD τ sig Unit := B3 c + tallyAt (barC (up 1 c)) () 1
def O₀ (c : Dev nD) : CellTallies nD τ sig Unit := B2 c + tallyAt (barC (up 0 c)) () 1

def L (g : GSem nD τ sig) : Finset Unit := if g.1.2 = .tc then {()} else ∅
def lvOf : Role → ℕ
  | .bar => 1
  | .recv _ => 2
  | .exit => 3
  | _ => 0
def lv (g : GSem nD τ sig) (_ : Unit) : ℕ := lvOf (role g.2)

theorem L_of_ne (g : GSem nD τ sig) (h : g.1.2 ≠ .tc) : L g = ∅ := if_neg h
theorem L_tc (c : Dev nD) (sm : SemLoc sig) : L ((c : Thread nD τ), sm) = {()} := if_pos rfl

/-- Every debt in `O` is at a level above `k`. -/
def Above (k : ℕ) (O : CellTallies nD τ sig Unit) : Prop := ∀ g u, 0 < O g u → g.1.2 = .tc ∧ k < lv g u

theorem Above.zero (k : ℕ) : Above k 0 := fun g u h => absurd h (Nat.lt_irrefl 0)
theorem Above.tally {k : ℕ} {O : CellTallies nD τ sig Unit} (h : Above k O) (c : Dev nD) (sm : SemLoc sig) (n : ℕ) (hk : k < lvOf (role sm)) :
    Above k (O + tallyAt ((c : Thread nD τ), sm) () n) := by
  intro g u hg
  rw [Pi.add_apply, Finsupp.add_apply, tallyAt_apply] at hg
  by_cases h' : g = ((c : Thread nD τ), sm) ∧ u = ()
  · rw [h'.1]; exact ⟨rfl, hk⟩
  · rw [if_neg h', add_zero] at hg; exact h g u hg

theorem above_E1 (c : Dev nD) : Above 2 (E1 c) := by
  unfold E1 E2 E3
  exact (((Above.zero 2).tally _ _ _ (by rw [role_exit]; decide)).tally _ _ _ (by rw [role_exit]; decide)).tally _ _ _ (by rw [role_exit]; decide)
theorem above_R1 (c : Dev nD) : Above 1 (R1 c) := by
  have h : Above 1 (E1 c) := fun g u hg => ⟨(above_E1 c g u hg).1, lt_trans (by decide) (above_E1 c g u hg).2⟩
  unfold R1 R2 R3
  exact ((h.tally _ _ _ (by rw [role_recv]; decide)).tally _ _ _ (by rw [role_recv]; decide)).tally _ _ _ (by rw [role_recv]; decide)
theorem above_O₀ (c : Dev nD) : Above 0 (O₀ c) := by
  have h : Above 0 (R1 c) := fun g u hg => ⟨(above_R1 c g u hg).1, lt_trans (by decide) (above_R1 c g u hg).2⟩
  unfold O₀ B2 B3
  exact ((h.tally _ _ _ (by rw [role_bar]; decide)).tally _ _ _ (by rw [role_bar]; decide)).tally _ _ _ (by rw [role_bar]; decide)

omit [FloatOps F] in
/-- A device may wait on a cell at level `k` while every debt of it is above. -/
theorem mayWait_above (c : Dev nD) (sm : SemLoc sig) {k : ℕ} (hk : lvOf (role sm) = k) {O : CellTallies nD τ sig Unit} (hO : Above k O) :
    (levAts L lv : sProp 𝕄) ⊢ MayWait (c : Thread nD τ) sm () O :=
  MayOwe.of_cut (L := L) (lev := lv) k (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hk.le)
    (fun g u hg => (hO g u hg).2)

/-! ## The state a device's body starts from -/

/-- The invariants of all cells of all devices, and that every cell is in its round. -/
def records (K : Dev nD × Fin 8 → ℕ) : sProp 𝕄 :=
  iprop(bigSep Finset.univ (fun ck : Dev nD × Fin 8 => cellInv ER (Rd m) (K ck) (kcell ck))
    ∗ bigSep Finset.univ (fun ck : Dev nD × Fin 8 => reached ER (kcell ck) 0))

instance records_persistent (K : Dev nD × Fin 8 → ℕ) : BI.Persistent (records m K) := by unfold records; infer_instance

variable (K : Dev nD × Fin 8 → ℕ)

theorem records_inv (ck : Dev nD × Fin 8) : records m K ⊢ cellInv ER (Rd m) (K ck) (kcell ck) := by
  unfold records
  have h : (bigSep Finset.univ (fun ck : Dev nD × Fin 8 => cellInv ER (Rd m) (K ck) (kcell ck)) : sProp 𝕄)
      ⊢ cellInv ER (Rd m) (K ck) (kcell ck) := bigSep_elim (Finset.mem_univ ck)
  iintro ⟨H, -⟩
  iapply h; iexact H
theorem records_reached (ck : Dev nD × Fin 8) : records m K ⊢ reached ER (kcell ck) 0 := by
  unfold records
  have h : (bigSep Finset.univ (fun ck : Dev nD × Fin 8 => reached ER (kcell ck) 0) : sProp 𝕄)
      ⊢ reached ER (kcell ck) 0 := bigSep_elim (Finset.mem_univ ck)
  iintro ⟨-, H⟩
  iapply h; iexact H

/-- A device's positions in its eight cells, and the tokens of the twelve duties it pays. -/
def ghost (c : Dev nD) : sProp 𝕄 :=
  iprop(records m K
    ∗ (atPos ER (barC c) 0 ∅ 0 ∗ atPos ER (exitC c) 0 ∅ 0
      ∗ atPos ER (sendC 0 c) 0 ∅ 0 ∗ atPos ER (sendC 1 c) 0 ∅ 0 ∗ atPos ER (sendC 2 c) 0 ∅ 0
      ∗ atPos ER (recvC 0 c) 0 ∅ 0 ∗ atPos ER (recvC 1 c) 0 ∅ 0 ∗ atPos ER (recvC 2 c) 0 ∅ 0)
    ∗ (dutyTok ER (barC (up 0 c)) 0 0 ∗ dutyTok ER (barC (up 1 c)) 0 1 ∗ dutyTok ER (barC (up 2 c)) 0 2)
    ∗ (dutyTok ER (exitC (up 0 c)) 0 0 ∗ dutyTok ER (exitC (up 1 c)) 0 1 ∗ dutyTok ER (exitC (up 2 c)) 0 2)
    ∗ (dutyTok ER (sendC 0 c) 0 0 ∗ dutyTok ER (sendC 1 c) 0 0 ∗ dutyTok ER (sendC 2 c) 0 0)
    ∗ (dutyTok ER (recvC 2 (up 0 c)) 0 0 ∗ dutyTok ER (recvC 1 (up 1 c)) 0 0 ∗ dutyTok ER (recvC 0 (up 2 c)) 0 0))

/-- What it will be credited: the signals and landings it waits for. -/
def credits (c : Dev nD) : sProp 𝕄 :=
  iprop(cred (tallyAt (barC c) () 3) ∗ cred (tallyAt (exitC c) () 3)
    ∗ cred (tallyAt (recvC 0 c) () N) ∗ cred (tallyAt (recvC 1 c) () N) ∗ cred (tallyAt (recvC 2 c) () N))

def start (c : Dev nD) : sProp 𝕄 := iprop((∃ K, ghost m K c) ∗ credits c ∗ levAts L lv)

/-- The three scratch buffers, at any contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- The device's eight cells, closed, at zero. -/
def zeros (c : Dev nD) : sProp 𝕄 :=
  iprop((semVal (exitC c) 0 ∗ semVal (sendC 0 c) 0 ∗ semVal (sendC 1 c) 0 ∗ semVal (sendC 2 c) 0
    ∗ semVal (recvC 0 c) 0 ∗ semVal (recvC 1 c) 0 ∗ semVal (recvC 2 c) 0) ∗ semVal (barC c) 0)

def Φ₀ (c : Dev nD) : sProp 𝕄 := iprop(start m c ∗ scratch c)
def Φ₁ (c : Dev nD) : sProp 𝕄 := iprop(scratch c ∗ zeros c)

def dats (_ : Fin 1) (c : Dev nD) : Dat τ (Elt F) Unit ℕ UU ℕ cfg0 c where
  A w := m ((cfg0.win w).arr.view.loc (c : Thread nD τ))
  after w _ := match w with
    | ⟨0, _⟩ => xB m c
    | ⟨1, _⟩ => wB m c
    | ⟨2, _⟩ => iB m c
    | ⟨3, _⟩ => eB m c
    | ⟨4, _⟩ => outB m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.KernelIdeal.Moe
end
-- ==== Proof.KernelIdeal.Steps.lean ====
/- One rule per remote step of the kernel: a signal to another device's barrier or exit cell, a transfer of a chunk, and
   the waits on a device's own cells. -/
module

public import proofs.«01_k».proof.Proof.KernelIdeal.Protocol

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 8 → ℕ)

theorem inv_bar (c : Dev nD) : records m K ⊢ cellInv ER (Rd m) (K (c, 0)) (barC c) := records_inv m K (c, 0)
theorem inv_exit (c : Dev nD) : records m K ⊢ cellInv ER (Rd m) (K (c, 1)) (exitC c) := records_inv m K (c, 1)
theorem inv_send (j : Fin 3) (c : Dev nD) : records m K ⊢ cellInv ER (Rd m) (K (c, sI j)) (sendC j c) := by
  rw [← kcell_send]; exact records_inv m K (c, sI j)
theorem inv_recv (j : Fin 3) (c : Dev nD) : records m K ⊢ cellInv ER (Rd m) (K (c, rI j)) (recvC j c) := by
  rw [← kcell_recv]; exact records_inv m K (c, rI j)
theorem in_bar (c : Dev nD) : records m K ⊢ reached ER (barC c) 0 := records_reached m K (c, 0)
theorem in_exit (c : Dev nD) : records m K ⊢ reached ER (exitC c) 0 := records_reached m K (c, 1)
theorem in_send (j : Fin 3) (c : Dev nD) : records m K ⊢ reached ER (sendC j c) 0 := by
  rw [← kcell_send]; exact records_reached m K (c, sI j)
theorem in_recv (j : Fin 3) (c : Dev nD) : records m K ⊢ reached ER (recvC j c) 0 := by
  rw [← kcell_recv]; exact records_reached m K (c, rI j)

/-- What a device owes, whatever it has waited for. -/
def owing (c : Dev nD) (O : CellTallies nD τ sig Unit) : sProp 𝕄 := iprop(∃ W, owes (c : Thread nD τ) O W)

/-! ## Signals -/

/-- The signal to the barrier of `up r c`, handing over receive slot `r`. -/
theorem step_signal_bar {α : Type} {Q : α → sProp 𝕄} {k : PUnit → Prog (TpuEff nD τ sig (Elt F) Λ₀ .tc) α}
    (r : Fin 3) (c n : Dev nD) (hn : n = up r c) {k' : ℕ} (hk : k' = 1) (O : CellTallies nD τ sig Unit) :
    iprop(records m K ∗ owing c (O + tallyAt (barC (up r c)) () 1) ∗ dutyTok ER (barC (up r c)) 0 r ∗ (∃ f, rPts r c f))
      ⊢ iprop((owing c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hn hk
  unfold owing
  iintro ⟨#HR, ⟨%W, HO⟩, Ht, ⟨%f, Hs⟩⟩ Hk
  iapply (Rounds.wp_signal 𝒱₀ ER (Rd m) (c : Thread nD τ) none (dst := (up r c : Thread nD τ)) (κ := K (up r c, 0)) (d := r)
      (by rw [duties_bar]; exact Finset.mem_univ _) (amount_bar m (up r c) r) () O rfl) $$ [HO Ht Hs]
  · isplitr; · iapply (inv_bar m K (up r c)); iexact HR
    isplitl [HO]; · iexact HO
    isplitl [Ht]; · iexact Ht
    isplitl [Hs]
    · rw [payload_bar]; unfold barPay; rw [dn_up]; iexists f; iexact Hs
    iapply (in_bar m K (up r c)); iexact HR
  iintro HO
  iapply Hk; iexists W; iexact HO

/-- The signal to the exit cell of `up r c`. -/
theorem step_signal_exit {α : Type} {Q : α → sProp 𝕄} {k : PUnit → Prog (TpuEff nD τ sig (Elt F) Λ₀ .tc) α}
    (r : Fin 3) (c n : Dev nD) (hn : n = up r c) {k' : ℕ} (hk : k' = 1) (O : CellTallies nD τ sig Unit) :
    iprop(records m K ∗ owing c (O + tallyAt (exitC (up r c)) () 1) ∗ dutyTok ER (exitC (up r c)) 0 r)
      ⊢ iprop((owing c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) exitS k') k) Q) := by
  subst hn hk
  unfold owing
  iintro ⟨#HR, ⟨%W, HO⟩, Ht⟩ Hk
  iapply (Rounds.wp_signal 𝒱₀ ER (Rd m) (c : Thread nD τ) none (dst := (up r c : Thread nD τ)) (κ := K (up r c, 1)) (d := r)
      (by rw [duties_exit]; exact Finset.mem_univ _) (amount_exit m (up r c) r) () O rfl) $$ [HO Ht]
  · isplitr; · iapply (inv_exit m K (up r c)); iexact HR
    isplitl [HO]; · iexact HO
    isplitl [Ht]; · iexact Ht
    isplitr
    · rw [payload_exit]; iempintro
    iapply (in_exit m K (up r c)); iexact HR
  iintro HO
  iapply Hk; iexists W; iexact HO

/-! ## Transfers -/

/-- Transfer `r`: from send slot `r` into the slot of `up r c` that its barrier signal handed over. -/
theorem step_send {α : Type} {Q : α → sProp 𝕄} {k : PUnit → Prog (TpuEff nD τ sig (Elt F) Λ₀ .tc) α}
    (r : Fin 3) (c n : Dev nD) (hn : n = up r c)
    {hsc : (rSlot r.rev : Memref sig (Dev.tc n : Thread nD τ).2.kind .vmem S128x512 .bf16).view.ref.isScScratch = false}
    {hsrc : (sSlot r).view.WordExact} {hdst : (rSlot r.rev).view.WordExact}
    {hsem : DmaTarget.Typed .vmem (.dma (rSem r.rev)) (.remote (Dev.tc n : Thread nD τ) (rSlot r.rev) (.dma (sSem r)) hsc)}
    (O : CellTallies nD τ sig Unit) :
    iprop(records m K ∗ owing c (O + tallyAt (recvC r.rev (up r c)) () N) ∗ dutyTok ER (sendC r c) 0 0 ∗ dutyTok ER (recvC r.rev (up r c)) 0 0
        ∗ sHolds r c (sent m r c) ∗ barPay r.rev c)
      ⊢ iprop(((cred (tallyAt (sendC r c) () N) ∗ owing c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sSlot r) (.remote (Dev.tc n : Thread nD τ) (rSlot r.rev) (.dma (sSem r)) hsc) (.dma (rSem r.rev)) hsrc hdst hsem) k) Q) := by
  subst hn
  unfold owing barPay sHolds
  rw [dn_rev]
  iintro ⟨#HR, ⟨%W, HO⟩, Ht, Hu, ⟨%fs, %hfs, Hs⟩, ⟨%fd, Hd⟩⟩ Hk
  have hd₁ : (0 : Fin 3) ∈ (Rd m).duties (sendC r c) 0 := by rw [duties_send]; exact Finset.mem_singleton_self _
  have hd₂ : (0 : Fin 3) ∈ (Rd m).duties (recvC r.rev (up r c)) 0 := by rw [duties_recv]; exact Finset.mem_singleton_self _
  have hpay : (sPts r c fs : sProp 𝕄) ⊢ (Rd m).payload (sendC r c) 0 0 := by
    rw [payload_send]; exact exists_intro fs
  have hland : ((rSlot r.rev).view.loc (up r c : Thread nD τ) ↦[(rSlot r.rev).view.set]{fullShare}
      ((rSlot r.rev).view.write (Elt F) fd ((sSlot r).view.read (Elt F) fs) Finset.univ) : sProp 𝕄)
      ⊢ (Rd m).payload (recvC r.rev (up r c)) 0 0 := by
    rw [payload_recv]
    unfold rHolds rPts
    iintro H
    iexists ((rSlot r.rev).view.write (Elt F) fd ((sSlot r).view.read (Elt F) fs) Finset.univ)
    isplitr
    · ipureintro
      rw [read_landed r r.rev fd fs, hfs, arrived, up_rev_up, Fin.rev_rev]
    iexact H
  iapply (Rounds.wp_send_pointsTo 𝒱₀ ER (Rd m) (c : Thread nD τ) none (c' := (up r c : Thread nD τ)) (src := sSlot r) (dst := rSlot r.rev)
    (sS := .dma (sSem r)) (sem := .dma (rSem r.rev)) (hsc := hsc) (hsrc := hsrc) (hdst := hdst) (hsem := hsem) (k := k) (Q := Q) (Es := Set.univ)
    (κ₁ := K (c, sI r)) (κ₂ := K (up r c, rI r.rev)) (q := fullShare)
    (r₁ := 0) (r₂ := 0) (d₁ := 0) (d₂ := 0) (fd := fd) (fs := fs)
    hd₁ hd₂ () () N (credit_recv r.rev) (amount_send m r c 0) (amount_recv m r.rev (up r c) 0) O rfl (W := W) hpay hland) $$ [HO Ht Hu Hs Hd]
  · isplitr; · iapply (inv_send m K r c); iexact HR
    isplitr; · iapply (inv_recv m K r.rev (up r c)); iexact HR
    isplitl [Hs]; · unfold sPts; iexact Hs
    isplitl [Hd]; · unfold rPts; iexact Hd
    isplitl [HO]; · iexact HO
    isplitl [Ht]; · iexact Ht
    isplitr; · iapply (in_send m K r c); iexact HR
    isplitl [Hu]; · iexact Hu
    iapply (in_recv m K r.rev (up r c)); iexact HR
  iintro ⟨Hc, HO⟩
  iapply Hk
  isplitl [Hc]; · iexact Hc
  iexists W; iexact HO

/-! ## Waits -/

/-- A wait for the whole round of one of the device's own cells: it hands over the round, and the cell is closed. -/
theorem step_wait {α : Type} {Q : α → sProp 𝕄} {k : PUnit → Prog (TpuEff nD τ sig (Elt F) Λ₀ .tc) α}
    {w : TpuEff nD τ sig (Elt F) Λ₀ .tc PUnit} {k' : ℕ}
    (c : Dev nD) (ck : Fin 8) (sm : SemLoc sig) (hsm : csem ck = sm)
    (hw : ∀ P : PUnit → sProp 𝕄, wpE (defs₀ (F := F)) 𝒱₀ (c : Thread nD τ) none Set.univ w P = waitSpec (c : Thread nD τ) Set.univ sm k' P)
    (n : ℕ) (hk : k' = n) (hn : (Rd m).expect ((c : Thread nD τ), sm) 0 = n)
    (O : CellTallies nD τ sig Unit) (hO : Above (lvOf (role sm)) O) :
    iprop(records m K ∗ levAts L lv ∗ owing c O ∗ cred (tallyAt ((c : Thread nD τ), sm) () n) ∗ atPos ER ((c : Thread nD τ), sm) 0 ∅ 0)
      ⊢ iprop(((owing c O ∗ semVal ((c : Thread nD τ), sm) 0
            ∗ bigSep ((Rd m).duties ((c : Thread nD τ), sm) 0 \ ∅) (fun d => (Rd m).payload ((c : Thread nD τ), sm) 0 d))
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hk hsm
  unfold owing
  iintro ⟨#HR, #Hlev, ⟨%W, HO⟩, Hc, Hat⟩ Hk
  iapply (Rounds.wp_wait_rest_token 𝒱₀ ER (Rd m) (c : Thread nD τ) none (κ := K (c, ck)) hw (Set.mem_univ _) () (O := O) (W := W)
      (R := 0) (m := 0) (T := ∅) (by rw [hn, Nat.zero_add])) $$ [HO Hc Hat]
  · isplitr; · iapply (records_inv m K (c, ck)); iexact HR
    isplitl [Hc]; · iexact Hc
    isplitl [HO]; · iexact HO
    isplitr; · iapply (mayWait_above c (csem ck) rfl hO); iexact Hlev
    iexact Hat
  iintro ⟨HO, Hat, -, Hpay⟩
  imod (Rounds.cell_close ER (Rd m) (Set.mem_univ (K (c, ck))) (fun h => h) (R := 0 + 1) (duties_later m (kcell (c, ck)))) $$ [Hat] with Hz
  · isplitr; · iapply (records_inv m K (c, ck)); iexact HR
    iexact Hat
  iapply Hk
  isplitl [HO]; · iexists _; iexact HO
  isplitl [Hz]; · iexact Hz
  iexact Hpay

end Cert.KernelIdeal.Moe
end
-- ==== Proof.KernelIdeal.Body.lean ====
/- The kernel's body on one device, run from what the device starts with to what it leaves. -/
module

public import proofs.«01_k».proof.Proof.KernelIdeal.Steps

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 8 → ℕ)

/-! ## Whole-buffer reads and writes -/

abbrev aR : Rect S512x512 := Rect.unit (s := S512x512) ![0, 0] S512x512.size inb_S512x512_S512x512_0_0
abbrev oR : Rect S128x512 := Rect.unit (s := S128x512) ![0, 0] S128x512.size inb_S128x512_S128x512_0_0

theorem hz2 : (![0, 0] : Fin 2 → Nat) = fun _ => 0 := funext fun a => by fin_cases a <;> rfl

omit [FloatOps F] in
theorem read_x (f : (cc0_stg0_0 : Ref sig .tc).ty.Contents (Elt F)) :
    xM.view.readAt (Elt F) (Rect.unit (s := S512x256) ![0, 0] S512x256.size inb_S512x256_S512x256_0_0).toLoadRect f = f :=
  Memref.readAt_unit_zero (Elt F) cc0_stg0_0 hz2 _ f
omit [FloatOps F] in
theorem read_w (f : (cc0_stg1_0 : Ref sig .tc).ty.Contents (Elt F)) :
    wM.view.readAt (Elt F) (Rect.unit (s := S256x8) ![0, 0] S256x8.size inb_S256x8_S256x8_0_0).toLoadRect f = f :=
  Memref.readAt_unit_zero (Elt F) cc0_stg1_0 hz2 _ f
omit [FloatOps F] in
theorem write_a (f v : (cc0_scratch0 : Ref sig .tc).ty.Contents (Elt F)) :
    (aM.access aR : View sig .tc _ _ _).write (Elt F) f v Finset.univ = v :=
  Memref.write_access_unit_zero_univ (Elt F) cc0_scratch0 hz2 _ f v
omit [FloatOps F] in
theorem write_o (f v : (cc0_stg4_0 : Ref sig .tc).ty.Contents (Elt F)) :
    (oM.access oR : View sig .tc _ _ _).write (Elt F) f v Finset.univ = v :=
  Memref.write_access_unit_zero_univ (Elt F) cc0_stg4_0 hz2 _ f v

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The chunks, as the body's three stores state them -/

theorem sent_eq0 (c : Dev nD) :
    k0_pay10 (aM.view.readAt (Elt F) (Rect.unit (s := S512x512) (k0_off1 c 1#32) S128x512.size (k0_off1_inb c 0)).toLoadRect (accB m c)) = sent m 0 c := rfl
theorem sent_eq1 (c : Dev nD) :
    k0_pay11 (aM.view.readAt (Elt F) (Rect.unit (s := S512x512) (k0_off1 c 2#32) S128x512.size (k0_off1_inb c 1)).toLoadRect (accB m c)) = sent m 1 c := rfl
theorem sent_eq2 (c : Dev nD) :
    k0_pay12 (aM.view.readAt (Elt F) (Rect.unit (s := S512x512) (k0_off1 c 3#32) S128x512.size (k0_off1_inb c 2)).toLoadRect (accB m c)) = sent m 2 c := rfl

/-! ## The body -/

/-- A staging buffer at contents equal to `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ credits c ∗ levAts L lv ∗ scratch c)
    ∗ (dats m 0 c).owesAt () t0_0.castSucc
    ∗ (∃ d, stg c cc0_stg0_0 ((dats m 0 c).before (0 : Fin 5) t0_0 d))
    ∗ (∃ d, stg c cc0_stg1_0 ((dats m 0 c).before (1 : Fin 5) t0_0 d))
    ∗ (∃ d, stg c cc0_stg2_0 ((dats m 0 c).before (2 : Fin 5) t0_0 d))
    ∗ (∃ d, stg c cc0_stg3_0 ((dats m 0 c).before (3 : Fin 5) t0_0 d))
    ∗ (∃ d, stg c cc0_stg4_0 ((dats m 0 c).before (4 : Fin 5) t0_0 d)))

def bodyPost (c : Dev nD) : sProp 𝕄 :=
  iprop(Φ₁ c ∗ (dats m 0 c).owesAt () t0_0.succ ∗ stg c cc0_stg0_0 (xB m c) ∗ stg c cc0_stg1_0 (wB m c) ∗ stg c cc0_stg2_0 (iB m c)
    ∗ stg c cc0_stg3_0 (eB m c) ∗ stg c cc0_stg4_0 (outB m c))

set_option maxHeartbeats 800000 in
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_scratch0) (Memref.isWhole_whole _)
            (Memref.whole cc0_scratch1) (Memref.isWhole_whole _) (Memref.whole cc0_scratch2) (Memref.isWhole_whole _)
            cc0_scratch3 cc0_scratch4 cc0_scoped0) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret, wp_deviceId]
  unfold bodyPre ghost credits scratch
  iintro ⟨⟨⟨⟨#HR, ⟨HatB, HatE, HatS0, HatS1, HatS2, HatR0, HatR1, HatR2⟩, ⟨HtB0, HtB1, HtB2⟩, ⟨HtE0, HtE1, HtE2⟩, ⟨HtS0, HtS1, HtS2⟩, ⟨HtR2, HtR1, HtR0⟩⟩,
    ⟨HcB, HcE, HcR0, HcR1, HcR2⟩, #Hlev, ⟨⟨%fa, Ha⟩, ⟨%fs, Hs⟩, ⟨%fr, Hr⟩⟩⟩,
    Ho, ⟨%d0, %g0, %hg0, Hx⟩, ⟨%d1, %g1, %hg1, Hw⟩, ⟨%d2, %g2, %hg2, Hi⟩, ⟨%d3, %g3, %hg3, He⟩, ⟨%d4, %g4, %hg4, Hout⟩⟩, Hk⟩
  have hx : g0 = xB m c := by rw [hg0]; unfold Dat.before; rw [if_pos (fetch0_0 t0_0)]; rfl
  have hw : g1 = wB m c := by rw [hg1]; unfold Dat.before; rw [if_pos (fetch0_1 t0_0)]; rfl
  have hi : g2 = iB m c := by rw [hg2]; unfold Dat.before; rw [if_pos (fetch0_2 t0_0)]; rfl
  have he : g3 = eB m c := by rw [hg3]; unfold Dat.before; rw [if_pos (fetch0_3 t0_0)]; rfl
  subst hx hw hi he
  unfold Dat.owesAt Pipeline.owesWithin
  icases Ho with ⟨%W, %hW, HO⟩
  rw [show (dats m 0 c).owed t0_0.castSucc = O₀ c from rfl]
  ihave HO := (show iprop(owes (c : Thread nD τ) (O₀ c) W) ⊢ (owing c (O₀ c) : sProp 𝕄) from exists_intro W) $$ HO
  simp only [dev1_eq c, dev2_eq c, dev3_eq c, dev4_eq c, dev5_eq c, dev6_eq c, dev7_eq c, dev8_eq c, dev9_eq c]
  -- the staged blocks are read and the accumulator is filled
  iapply (wp_load 𝒱₀ (c : Thread nD τ) none Set.univ (m := xM) (Finset.subset_univ _)) $$ Hx; iintro Hx
  rw [read_x]
  iapply (wp_load 𝒱₀ (c : Thread nD τ) none Set.univ (m := wM) (Finset.subset_univ _)) $$ Hw; iintro Hw
  rw [read_w]
  iapply (wp_load 𝒱₀ (c : Thread nD τ) none Set.univ (m := iM) (Finset.subset_univ _)) $$ Hi; iintro Hi
  iapply (wp_load 𝒱₀ (c : Thread nD τ) none Set.univ (m := iM) (Finset.subset_univ _)) $$ Hi; iintro Hi
  iapply (wp_load 𝒱₀ (c : Thread nD τ) none Set.univ (m := eM) (Finset.subset_univ _)) $$ He; iintro He
  iapply (wp_load 𝒱₀ (c : Thread nD τ) none Set.univ (m := eM) (Finset.subset_univ _)) $$ He; iintro He
  iapply (wp_load 𝒱₀ (c : Thread nD τ) none Set.univ (m := aM) (Finset.subset_univ _)) $$ Ha; iintro Ha
  iapply (wp_store 𝒱₀ (c : Thread nD τ) none Set.univ (m := aM) (r := aR) (Mk := Finset.univ) (Finset.subset_univ _)) $$ Ha; iintro Ha
  rw [write_a]
  obtain ⟨acc, hacc⟩ : ∃ v, v = accB m c := ⟨_, rfl⟩
  have hacc' := hacc
  unfold accB accOf idx0 idx1 exp0 exp1 word at hacc'
  rw [← hacc']
  subst hacc
  clear hacc'
  -- the three chunks to send are copied out of it
  ihave Hs3 := (cut_send c fs) $$ Hs
  icases Hs3 with ⟨Hs0, Hs1, Hs2⟩
  unfold sPts
  iapply (wp_load 𝒱₀ (c : Thread nD τ) none Set.univ (m := aM) (Finset.subset_univ _)) $$ Ha; iintro Ha
  iapply (wp_load 𝒱₀ (c : Thread nD τ) none Set.univ (m := sendM) (sSlot_loads 0)) $$ Hs0; iintro Hs0
  iapply (wp_store 𝒱₀ (c : Thread nD τ) none Set.univ (m := sendM) (r := slotR 0) (Mk := Finset.univ) (sSlot_setOn 0)) $$ Hs0; iintro Hs0
  ihave Hs0 := (sHolds_store 0 c fs _ _ (sent_eq0 m c)) $$ Hs0
  iapply (wp_load 𝒱₀ (c : Thread nD τ) none Set.univ (m := aM) (Finset.subset_univ _)) $$ Ha; iintro Ha
  iapply (wp_load 𝒱₀ (c : Thread nD τ) none Set.univ (m := sendM) (sSlot_loads 1)) $$ Hs1; iintro Hs1
  iapply (wp_store 𝒱₀ (c : Thread nD τ) none Set.univ (m := sendM) (r := slotR 1) (Mk := Finset.univ) (sSlot_setOn 1)) $$ Hs1; iintro Hs1
  ihave Hs1 := (sHolds_store 1 c fs _ _ (sent_eq1 m c)) $$ Hs1
  iapply (wp_load 𝒱₀ (c : Thread nD τ) none Set.univ (m := aM) (Finset.subset_univ _)) $$ Ha; iintro Ha
  iapply (wp_load 𝒱₀ (c : Thread nD τ) none Set.univ (m := sendM) (sSlot_loads 2)) $$ Hs2; iintro Hs2
  iapply (wp_store 𝒱₀ (c : Thread nD τ) none Set.univ (m := sendM) (r := slotR 2) (Mk := Finset.univ) (sSlot_setOn 2)) $$ Hs2; iintro Hs2
  ihave Hs2 := (sHolds_store 2 c fs _ _ (sent_eq2 m c)) $$ Hs2
  -- the barrier: three signals, each with a receive slot, and the wait for three
  ihave Hr3 := (cut_recv c fr) $$ Hr
  icases Hr3 with ⟨Hr0, Hr1, Hr2⟩
  iapply (step_signal_bar m K 0 c (up 0 c) rfl rfl (B2 c)) $$ [HO HtB0 Hr0]
  · isplitr; · iexact HR
    isplitl [HO]; · iexact HO
    isplitl [HtB0]; · iexact HtB0
    iexists fr; iexact Hr0
  iintro HO
  iapply (step_signal_bar m K 1 c (up 1 c) rfl rfl (B3 c)) $$ [HO HtB1 Hr1]
  · isplitr; · iexact HR
    isplitl [HO]; · iexact HO
    isplitl [HtB1]; · iexact HtB1
    iexists fr; iexact Hr1
  iintro HO
  iapply (step_signal_bar m K 2 c (up 2 c) rfl rfl (R1 c)) $$ [HO HtB2 Hr2]
  · isplitr; · iexact HR
    isplitl [HO]; · iexact HO
    isplitl [HtB2]; · iexact HtB2
    iexists fr; iexact Hr2
  iintro HO
  iapply (step_wait m K c 0 (.reg barS) rfl (wpE_semWait_eq 𝒱₀ (c : Thread nD τ) none Set.univ) 3 rfl (expect_bar m c) (R1 c)
      (by rw [role_bar]; exact above_R1 c)) $$ [HO HcB HatB]
  · isplitr; · iexact HR
    isplitr; · iexact Hlev
    isplitl [HO]; · iexact HO
    isplitl [HcB]; · iexact HcB
    iexact HatB
  rw [rest_bar m c]
  iintro ⟨HO, HzB, Hd0, Hd1, Hd2⟩
  -- the three transfers
  iapply (step_send m K 0 c _ (dev4_eq c) (R2 c)) $$ [HO HtS0 HtR2 Hs0 Hd2]
  · isplitr; · iexact HR
    isplitl [HO]; · iexact HO
    isplitl [HtS0]; · iexact HtS0
    isplitl [HtR2]; · iexact HtR2
    isplitl [Hs0]; · iexact Hs0
    iexact Hd2
  iintro ⟨HcS0, HO⟩
  iapply (step_send m K 1 c _ (dev5_eq c) (R3 c)) $$ [HO HtS1 HtR1 Hs1 Hd1]
  · isplitr; · iexact HR
    isplitl [HO]; · iexact HO
    isplitl [HtS1]; · iexact HtS1
    isplitl [HtR1]; · iexact HtR1
    isplitl [Hs1]; · iexact Hs1
    iexact Hd1
  iintro ⟨HcS1, HO⟩
  iapply (step_send m K 2 c _ (dev6_eq c) (E1 c)) $$ [HO HtS2 HtR0 Hs2 Hd0]
  · isplitr; · iexact HR
    isplitl [HO]; · iexact HO
    isplitl [HtS2]; · iexact HtS2
    isplitl [HtR0]; · iexact HtR0
    isplitl [Hs2]; · iexact Hs2
    iexact Hd0
  iintro ⟨HcS2, HO⟩
  -- the three landings
  iapply (step_wait m K c 7 (.dma (rSem 2)) rfl (wpE_waitDma2_eq 𝒱₀ (c : Thread nD τ) none Set.univ) N (credit_recv 2) (expect_recv m 2 c) (E1 c)
      (by rw [role_recv]; exact above_E1 c)) $$ [HO HcR2 HatR2]
  · isplitr; · iexact HR
    isplitr; · iexact Hlev
    isplitl [HO]; · iexact HO
    isplitl [HcR2]; · iexact HcR2
    iexact HatR2
  rw [rest_recv m 2 c]
  iintro ⟨HO, HzR2, Hp2⟩
  iapply (step_wait m K c 6 (.dma (rSem 1)) rfl (wpE_waitDma2_eq 𝒱₀ (c : Thread nD τ) none Set.univ) N (credit_recv 1) (expect_recv m 1 c) (E1 c)
      (by rw [role_recv]; exact above_E1 c)) $$ [HO HcR1 HatR1]
  · isplitr; · iexact HR
    isplitr; · iexact Hlev
    isplitl [HO]; · iexact HO
    isplitl [HcR1]; · iexact HcR1
    iexact HatR1
  rw [rest_recv m 1 c]
  iintro ⟨HO, HzR1, Hp1⟩
  iapply (step_wait m K c 5 (.dma (rSem 0)) rfl (wpE_waitDma2_eq 𝒱₀ (c : Thread nD τ) none Set.univ) N (credit_recv 0) (expect_recv m 0 c) (E1 c)
      (by rw [role_recv]; exact above_E1 c)) $$ [HO HcR0 HatR0]
  · isplitr; · iexact HR
    isplitr; · iexact Hlev
    isplitl [HO]; · iexact HO
    isplitl [HcR0]; · iexact HcR0
    iexact HatR0
  rw [rest_recv m 0 c]
  iintro ⟨HO, HzR0, Hp0⟩
  unfold rHolds
  icases Hp0 with ⟨%p0, %hp0, Hr0⟩
  icases Hp1 with ⟨%p1, %hp1, Hr1⟩
  icases Hp2 with ⟨%p2, %hp2, Hr2⟩
  unfold rPts
  -- the sum
  iapply (wp_load 𝒱₀ (c : Thread nD τ) none Set.univ (m := aM) (Finset.subset_univ _)) $$ Ha; iintro Ha
  iapply (wp_load 𝒱₀ (c : Thread nD τ) none Set.univ (m := recvM) (r := (slotR 0).toLoadRect) (rSlot_loads 0)) $$ Hr0; iintro Hr0
  rw [hp0]
  iapply (wp_load 𝒱₀ (c : Thread nD τ) none Set.univ (m := recvM) (r := (slotR 1).toLoadRect) (rSlot_loads 1)) $$ Hr1; iintro Hr1
  rw [hp1]
  iapply (wp_load 𝒱₀ (c : Thread nD τ) none Set.univ (m := recvM) (r := (slotR 2).toLoadRect) (rSlot_loads 2)) $$ Hr2; iintro Hr2
  rw [hp2]
  iapply (wp_load 𝒱₀ (c : Thread nD τ) none Set.univ (m := oM) (Finset.subset_univ _)) $$ Hout; iintro Hout
  iapply (wp_store 𝒱₀ (c : Thread nD τ) none Set.univ (m := oM) (r := oR) (Mk := Finset.univ) (Finset.subset_univ _)) $$ Hout; iintro Hout
  rw [write_o]
  obtain ⟨out, hout⟩ : ∃ v, v = outB m c := ⟨_, rfl⟩
  have hout' := hout
  unfold outB keep at hout'
  rw [← hout']
  subst hout
  clear hout'
  -- the three departures
  iapply (step_wait m K c 2 (.dma (sSem 0)) rfl (wpE_waitDma2_eq 𝒱₀ (c : Thread nD τ) none Set.univ) N (credit_send 0) (expect_send m 0 c) (E1 c)
      (by rw [role_send]; exact fun g u h => ⟨(above_E1 c g u h).1, lt_trans (by decide) (above_E1 c g u h).2⟩)) $$ [HO HcS0 HatS0]
  · isplitr; · iexact HR
    isplitr; · iexact Hlev
    isplitl [HO]; · iexact HO
    isplitl [HcS0]; · iexact HcS0
    iexact HatS0
  rw [rest_send m 0 c]
  iintro ⟨HO, HzS0, ⟨%q0, Hs0⟩⟩
  iapply (step_wait m K c 3 (.dma (sSem 1)) rfl (wpE_waitDma2_eq 𝒱₀ (c : Thread nD τ) none Set.univ) N (credit_send 1) (expect_send m 1 c) (E1 c)
      (by rw [role_send]; exact fun g u h => ⟨(above_E1 c g u h).1, lt_trans (by decide) (above_E1 c g u h).2⟩)) $$ [HO HcS1 HatS1]
  · isplitr; · iexact HR
    isplitr; · iexact Hlev
    isplitl [HO]; · iexact HO
    isplitl [HcS1]; · iexact HcS1
    iexact HatS1
  rw [rest_send m 1 c]
  iintro ⟨HO, HzS1, ⟨%q1, Hs1⟩⟩
  iapply (step_wait m K c 4 (.dma (sSem 2)) rfl (wpE_waitDma2_eq 𝒱₀ (c : Thread nD τ) none Set.univ) N (credit_send 2) (expect_send m 2 c) (E1 c)
      (by rw [role_send]; exact fun g u h => ⟨(above_E1 c g u h).1, lt_trans (by decide) (above_E1 c g u h).2⟩)) $$ [HO HcS2 HatS2]
  · isplitr; · iexact HR
    isplitr; · iexact Hlev
    isplitl [HO]; · iexact HO
    isplitl [HcS2]; · iexact HcS2
    iexact HatS2
  rw [rest_send m 2 c]
  iintro ⟨HO, HzS2, ⟨%q2, Hs2⟩⟩
  -- the exit: three signals and the wait for three
  iapply (step_signal_exit m K 0 c (up 0 c) rfl rfl (E2 c)) $$ [HO HtE0]
  · isplitr; · iexact HR
    isplitl [HO]; · iexact HO
    iexact HtE0
  iintro HO
  iapply (step_signal_exit m K 1 c (up 1 c) rfl rfl (E3 c)) $$ [HO HtE1]
  · isplitr; · iexact HR
    isplitl [HO]; · iexact HO
    iexact HtE1
  iintro HO
  iapply (step_signal_exit m K 2 c (up 2 c) rfl rfl 0) $$ [HO HtE2]
  · isplitr; · iexact HR
    isplitl [HO]; · iexact HO
    iexact HtE2
  iintro HO
  iapply (step_wait m K c 1 (.reg exitS) rfl (wpE_semWait_eq 𝒱₀ (c : Thread nD τ) none Set.univ) 3 rfl (expect_exit m c) 0
      (Above.zero _)) $$ [HO HcE HatE]
  · isplitr; · iexact HR
    isplitr; · iexact Hlev
    isplitl [HO]; · iexact HO
    isplitl [HcE]; · iexact HcE
    iexact HatE
  iintro ⟨HO, HzE, -⟩
  rw [wp_ret]; imodintro
  iapply Hk
  unfold bodyPost Φ₁ scratch zeros Dat.owesAt Pipeline.owesWithin
  rw [show (dats m 0 c).owed t0_0.succ = 0 from rfl]
  ihave Hs := (join_send c q0 q1 q2) $$ [Hs0 Hs1 Hs2]
  · isplitl [Hs0]; · iexact Hs0
    isplitl [Hs1]; · iexact Hs1
    iexact Hs2
  ihave Hr := (join_recv c p0 p1 p2) $$ [Hr0 Hr1 Hr2]
  · unfold rPts
    isplitl [Hr0]; · iexact Hr0
    isplitl [Hr1]; · iexact Hr1
    iexact Hr2
  isplitl [Ha Hs Hr HzE HzS0 HzS1 HzS2 HzR0 HzR1 HzR2 HzB]
  · isplitl [Ha Hs Hr]
    · isplitl [Ha]; · iexists _; iexact Ha
      isplitl [Hs]; · iexact Hs
      iexact Hr
    isplitr [HzB]
    · isplitl [HzE]; · iexact HzE
      isplitl [HzS0]; · iexact HzS0
      isplitl [HzS1]; · iexact HzS1
      isplitl [HzS2]; · iexact HzS2
      isplitl [HzR0]; · iexact HzR0
      isplitl [HzR1]; · iexact HzR1
      iexact HzR2
    iexact HzB
  isplitl [HO]
  · unfold owing
    icases HO with ⟨%W', HO⟩
    iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  isplitl [Hi]
  · iexists _; isplitr; · (ipureintro; rfl)
    iexact Hi
  isplitl [He]
  · iexists _; isplitr; · (ipureintro; rfl)
    iexact He
  iexists _; isplitr; · (ipureintro; rfl)
  iexact Hout

end Cert.KernelIdeal.Moe
end
-- ==== Proof.KernelIdeal.Launch.lean ====
/- The launch of the four kernels: the library's body obligation, the cells and their tokens handed out, and the run of @main. -/
module

public import proofs.«01_k».proof.Proof.KernelIdeal.Body
public import Idealize.ShloMosaic.Lib.Quiescent
public import Idealize.ShloMosaic.Lib.Pipeline.CollectiveSegs

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## The body obligation -/

def bodyPre' (c : Dev nD) : sProp 𝕄 :=
  iprop(Φ₀ m c ∗ (dats m 0 c).owesAt () t0_0.castSucc
    ∗ (∃ d, stg c cc0_stg0_0 ((dats m 0 c).before (0 : Fin 5) t0_0 d))
    ∗ (∃ d, stg c cc0_stg1_0 ((dats m 0 c).before (1 : Fin 5) t0_0 d))
    ∗ (∃ d, stg c cc0_stg2_0 ((dats m 0 c).before (2 : Fin 5) t0_0 d))
    ∗ (∃ d, stg c cc0_stg3_0 ((dats m 0 c).before (3 : Fin 5) t0_0 d))
    ∗ (∃ d, stg c cc0_stg4_0 ((dats m 0 c).before (4 : Fin 5) t0_0 d)))

set_option maxRecDepth 4000 in
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_scratch0) (Memref.isWhole_whole _)
      (Memref.whole cc0_scratch1) (Memref.isWhole_whole _) (Memref.whole cc0_scratch2) (Memref.isWhole_whole _)
      cc0_scratch3 cc0_scratch4 cc0_scoped0) (fun _ => bodyPost m c)
  unfold bodyPre' Φ₀ start
  iintro ⟨⟨⟨⟨%K, Hg⟩, Hc, Hl⟩, Hscr⟩, Hrest⟩
  iapply (sound_body m K c fun _ => bodyPost m c)
  unfold bodyPre
  isplitl
  · isplitl [Hg Hc Hl Hscr]
    · isplitl [Hg]; · iexact Hg
      isplitl [Hc]; · iexact Hc
      isplitl [Hl]; · iexact Hl
      iexact Hscr
    iexact Hrest
  iintro H; iexact H

/-! ## The cells and the tokens -/

/-- The kernel's own scoped semaphores. -/
abbrev osem : Fin 7 → SemLoc sig := fun i => csem i.succ

theorem ownSemFacts : Pipeline.OwnSemFacts cfg0.spec osem := by decide

theorem share_eq (c : Dev nD) (w : Fin cfg0.W) : (dats m 0 c).share w = fullShare := by unfold Dat.share; split <;> rfl

theorem csem_inj : Function.Injective csem := by decide

theorem kcell_inj : Function.Injective (kcell : Dev nD × Fin 8 → GSem nD τ sig) := by
  rintro ⟨c, k⟩ ⟨c', k'⟩ h
  have h1 : c = c' := congrArg (fun g : GSem nD τ sig => g.1.1) h
  have h2 : k = k' := csem_inj (congrArg Prod.snd h)
  rw [h1, h2]

def cells : Finset (GSem nD τ sig) := Finset.univ.map ⟨kcell, kcell_inj⟩

/-- The cell and the name of each of the twelve duties that are paid into one device's cells. -/
abbrev duty : Fin 12 → Fin 8 × Fin 3 := fun
  | 0 => (0, 0) | 1 => (0, 1) | 2 => (0, 2) | 3 => (1, 0) | 4 => (1, 1) | 5 => (1, 2)
  | 6 => (2, 0) | 7 => (3, 0) | 8 => (4, 0) | 9 => (7, 0) | 10 => (6, 0) | 11 => (5, 0)

theorem duty_inj : Function.Injective duty := by decide

def tokAt (ci : Dev nD × Fin 12) : GSem nD τ sig × ℕ × Fin 3 := (kcell (ci.1, (duty ci.2).1), 0, (duty ci.2).2)

theorem tokAt_inj : Function.Injective tokAt := by
  rintro ⟨c, i⟩ ⟨c', i'⟩ h
  have h1 := kcell_inj (congrArg Prod.fst h)
  have h2 : (duty i).2 = (duty i').2 := congrArg (fun x : GSem nD τ sig × ℕ × Fin 3 => x.2.2) h
  have h3 : (duty i).1 = (duty i').1 := congrArg Prod.snd h1
  have h4 : c = c' := congrArg Prod.fst h1
  rw [h4, duty_inj (Prod.ext h3 h2)]

def tokens : Finset (GSem nD τ sig × ℕ × Fin 3) := Finset.univ.map ⟨tokAt, tokAt_inj⟩

def u₀ : UU := (initOf (Pipeline.cells cfgs cellOf_inj) (Pipeline.launchToks cfgs cellOf_inj), initOf cells tokens)

/-- The tokens of the duties paid into device `c`'s cells. -/
def ownToks (c : Dev nD) : sProp 𝕄 :=
  iprop((dutyTok ER (barC c) 0 0 ∗ dutyTok ER (barC c) 0 1 ∗ dutyTok ER (barC c) 0 2)
    ∗ (dutyTok ER (exitC c) 0 0 ∗ dutyTok ER (exitC c) 0 1 ∗ dutyTok ER (exitC c) 0 2)
    ∗ (dutyTok ER (sendC 0 c) 0 0 ∗ dutyTok ER (sendC 1 c) 0 0 ∗ dutyTok ER (sendC 2 c) 0 0)
    ∗ (dutyTok ER (recvC 2 c) 0 0 ∗ dutyTok ER (recvC 1 c) 0 0 ∗ dutyTok ER (recvC 0 c) 0 0))

/-- The tokens of the duties device `c` pays. -/
def payToks (c : Dev nD) : sProp 𝕄 :=
  iprop((dutyTok ER (barC (up 0 c)) 0 0 ∗ dutyTok ER (barC (up 1 c)) 0 1 ∗ dutyTok ER (barC (up 2 c)) 0 2)
    ∗ (dutyTok ER (exitC (up 0 c)) 0 0 ∗ dutyTok ER (exitC (up 1 c)) 0 1 ∗ dutyTok ER (exitC (up 2 c)) 0 2)
    ∗ (dutyTok ER (sendC 0 c) 0 0 ∗ dutyTok ER (sendC 1 c) 0 0 ∗ dutyTok ER (sendC 2 c) 0 0)
    ∗ (dutyTok ER (recvC 2 (up 0 c)) 0 0 ∗ dutyTok ER (recvC 1 (up 1 c)) 0 0 ∗ dutyTok ER (recvC 0 (up 2 c)) 0 0))

def positions (c : Dev nD) : sProp 𝕄 :=
  iprop(atPos ER (barC c) 0 ∅ 0 ∗ atPos ER (exitC c) 0 ∅ 0
      ∗ atPos ER (sendC 0 c) 0 ∅ 0 ∗ atPos ER (sendC 1 c) 0 ∅ 0 ∗ atPos ER (sendC 2 c) 0 ∅ 0
      ∗ atPos ER (recvC 0 c) 0 ∅ 0 ∗ atPos ER (recvC 1 c) 0 ∅ 0 ∗ atPos ER (recvC 2 c) 0 ∅ 0)

def G (c : Dev nD) : sProp 𝕄 :=
  iprop((bigSep Finset.univ fun k : Fin 8 => roundState ER (Rd m) (kcell (c, k)) 0)
    ∗ (bigSep Finset.univ fun k : Fin 8 => reached ER (kcell (c, k)) 0)
    ∗ (bigSep Finset.univ fun k : Fin 8 => atPos ER (kcell (c, k)) 0 ∅ 0) ∗ ownToks c)

def G' (c : Dev nD) : sProp 𝕄 := iprop(∃ K, ghost m K c)

omit [FloatOps F] in
theorem sep8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem sep12 (Φ : Fin 12 → sProp 𝕄) :
    bigSep Finset.univ Φ ⊢ iprop((Φ 0 ∗ Φ 1 ∗ Φ 2) ∗ (Φ 3 ∗ Φ 4 ∗ Φ 5) ∗ (Φ 6 ∗ Φ 7 ∗ Φ 8) ∗ (Φ 9 ∗ Φ 10 ∗ Φ 11)) := by
  rw [bigSep_univ_eq_bigSepL [0, 1, 2, 3, 4, 5, 6, 7, 8, 9, 10, 11] (by decide) (by decide) Φ]
  show iprop(Φ 0 ∗ Φ 1 ∗ Φ 2 ∗ Φ 3 ∗ Φ 4 ∗ Φ 5 ∗ Φ 6 ∗ Φ 7 ∗ Φ 8 ∗ Φ 9 ∗ Φ 10 ∗ Φ 11) ⊢ _
  iintro ⟨H0, H1, H2, H3, H4, H5, H6, H7, H8, H9, Ha, Hb⟩
  isplitl [H0 H1 H2]
  · isplitl [H0]; · iexact H0
    isplitl [H1]; · iexact H1
    iexact H2
  isplitl [H3 H4 H5]
  · isplitl [H3]; · iexact H3
    isplitl [H4]; · iexact H4
    iexact H5
  isplitl [H6 H7 H8]
  · isplitl [H6]; · iexact H6
    isplitl [H7]; · iexact H7
    iexact H8
  isplitl [H9]; · iexact H9
  isplitl [Ha]; · iexact Ha
  iexact Hb

theorem fund : BI.own (ER (initOf cells tokens)) ⊢ (|==> bigSep Finset.univ (G m) : sProp 𝕄) := by
  have hX (Φ : GSem nD τ sig → sProp 𝕄) :
      bigSep cells Φ = bigSep Finset.univ fun c : Dev nD => bigSep Finset.univ fun k : Fin 8 => Φ (kcell (c, k)) := by
    unfold cells; rw [bigSep_map, bigSep_univ_prod]; rfl
  have hT : bigSep tokens (fun x => (dutyTok ER x.1 x.2.1 x.2.2 : sProp 𝕄)) ⊢ bigSep Finset.univ fun c : Dev nD => ownToks c := by
    unfold tokens; rw [bigSep_map, bigSep_univ_prod]
    exact bigSep_mono fun c _ => (sep12 _).trans (Entails.of_eq rfl)
  iintro HX
  imod (Rounds.fund ER (Rd m) cells tokens) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := hT $$ Htok
  unfold G; simp only [bigSep_sep']
  isplitl [Hst]; · iexact Hst
  isplitl [Hr]; · iexact Hr
  isplitl [Hat]; · iexact Hat
  iexact Htok

omit [FloatOps F] in
theorem ownSems0_eq (c : Dev nD) : (Pipeline.ownSems0 (Ix := Unit) (Name := ℕ) (U := UU) (Lvl := ℕ) (Val := Elt F) (τ := τ) osem c : sProp 𝕄)
    = iprop(semVal (exitC c) 0 ∗ semVal (sendC 0 c) 0 ∗ semVal (sendC 1 c) 0 ∗ semVal (sendC 2 c) 0
        ∗ semVal (recvC 0 c) 0 ∗ semVal (recvC 1 c) 0 ∗ semVal (recvC 2 c) 0) := by
  rw [Pipeline.ownSems0_eq_of_list c osem [0, 1, 2, 3, 4, 5, 6] (by decide) (by decide)]; rfl
omit [FloatOps F] in
theorem unscopedSems0_eq (c : Dev nD) : (unscopedSems0 c : sProp 𝕄) = semVal (barC c) 0 := by
  unfold unscopedSems0; rw [bigSep_eq_bigSepL_of_eq [SemLoc.reg barS] (by decide) (by decide)]; rfl

/-- One device's cells get their invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 8 => iprop(∃ κ : ℕ, cellInv ER (Rd m) κ (kcell (c, k))))
          ∗ (bigSep Finset.univ fun k : Fin 8 => reached ER (kcell (c, k)) 0)
          ∗ (bigSep Finset.univ fun k : Fin 8 => atPos ER (kcell (c, k)) 0 ∅ 0) ∗ ownToks c) := by
  have hv : iprop(Pipeline.ownSems0 (Ix := Unit) (Name := ℕ) (U := UU) (Lvl := ℕ) (Val := Elt F) (τ := τ) osem c ∗ unscopedSems0 c)
      ⊢ (bigSep Finset.univ fun k : Fin 8 => semVal (kcell (c, k)) 0 : sProp 𝕄) := by
    rw [ownSems0_eq, unscopedSems0_eq, sep8]
    iintro ⟨HS, HB⟩
    isplitl [HB]; · iexact HB
    iexact HS
  have ha : iprop((bigSep Finset.univ fun k : Fin 8 => semVal (kcell (c, k)) 0) ∗ bigSep Finset.univ fun k : Fin 8 => roundState ER (Rd m) (kcell (c, k)) 0)
      ⊢ (|={Set.univ}=> bigSep Finset.univ fun k : Fin 8 => iprop(∃ κ : ℕ, cellInv ER (Rd m) κ (kcell (c, k))) : sProp 𝕄) := by
    rw [← bigSep_sep']
    exact (bigSep_mono fun k _ => (Rounds.body_intro ER (Rd m) (kcell (c, k))).trans inv_alloc).trans (bigSep_fupd _ _)
  unfold G
  iintro ⟨Hos, Hus, Hst, Hrest⟩
  ihave Hv := hv $$ [Hos Hus]
  · isplitl [Hos] <;> iassumption
  imod ha $$ [Hv Hst] with Hinv
  · isplitl [Hv] <;> iassumption
  imodintro
  isplitl [Hinv]; · iexact Hinv
  iexact Hrest

omit [FloatOps F] in
/-- The tokens go to the devices that pay the duties. -/
theorem toks_around : (bigSep Finset.univ fun c : Dev nD => (ownToks c : sProp 𝕄)) ⊢ bigSep Finset.univ fun c : Dev nD => payToks c := by
  unfold ownToks payToks
  simp only [bigSep_sep']
  rw [bigSep_univ_equiv (shift 0) (fun c : Dev nD => (dutyTok ER (barC c) 0 0 : sProp 𝕄)),
    bigSep_univ_equiv (shift 1) (fun c : Dev nD => (dutyTok ER (barC c) 0 1 : sProp 𝕄)),
    bigSep_univ_equiv (shift 2) (fun c : Dev nD => (dutyTok ER (barC c) 0 2 : sProp 𝕄)),
    bigSep_univ_equiv (shift 0) (fun c : Dev nD => (dutyTok ER (exitC c) 0 0 : sProp 𝕄)),
    bigSep_univ_equiv (shift 1) (fun c : Dev nD => (dutyTok ER (exitC c) 0 1 : sProp 𝕄)),
    bigSep_univ_equiv (shift 2) (fun c : Dev nD => (dutyTok ER (exitC c) 0 2 : sProp 𝕄)),
    bigSep_univ_equiv (shift 0) (fun c : Dev nD => (dutyTok ER (recvC 2 c) 0 0 : sProp 𝕄)),
    bigSep_univ_equiv (shift 1) (fun c : Dev nD => (dutyTok ER (recvC 1 c) 0 0 : sProp 𝕄)),
    bigSep_univ_equiv (shift 2) (fun c : Dev nD => (dutyTok ER (recvC 0 c) 0 0 : sProp 𝕄))]
  exact Entails.of_eq rfl

theorem ghost_intro (K : Dev nD × Fin 8 → ℕ) (c : Dev nD) : iprop(records m K ∗ (positions c ∗ payToks c)) ⊢ G' m c := by
  unfold positions payToks G' ghost
  iintro ⟨HR, Hp, Ht⟩
  iexists K
  isplitl [HR]; · iexact HR
  isplitl [Hp]; · iexact Hp
  iexact Ht

omit [FloatOps F] in
theorem bigSep_shared {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 8 => iprop(∃ κ : ℕ, cellInv ER (Rd m) κ (kcell (c, k))))
          ∗ (bigSep Finset.univ fun k : Fin 8 => reached ER (kcell (c, k)) 0)
          ∗ (bigSep Finset.univ fun k : Fin 8 => atPos ER (kcell (c, k)) 0 ∅ 0) ∗ ownToks c) : sProp 𝕄)
      ⊢ bigSep Finset.univ (G' m) := by
  have hp : (bigSep Finset.univ fun c : Dev nD => bigSep Finset.univ fun k : Fin 8 => (atPos ER (kcell (c, k)) 0 ∅ 0 : sProp 𝕄))
      ⊢ bigSep Finset.univ fun c : Dev nD => (positions c : sProp 𝕄) :=
    bigSep_mono fun c _ => show (bigSep Finset.univ fun k : Fin 8 => (atPos ER (kcell (c, k)) 0 ∅ 0 : sProp 𝕄)) ⊢ positions c from by
      rw [sep8]; exact Entails.of_eq rfl
  rw [bigSep_sep', bigSep_sep', bigSep_sep', ← bigSep_univ_prod (fun ck : Dev nD × Fin 8 => iprop(∃ κ : ℕ, cellInv ER (Rd m) κ (kcell ck))),
    ← bigSep_univ_prod (fun ck : Dev nD × Fin 8 => (reached ER (kcell ck) 0 : sProp 𝕄))]
  iintro ⟨HI, #HR, Hat, Htok⟩
  ihave HK := (BI.bigSep_exists_pi Finset.univ (fun (ck : Dev nD × Fin 8) (κ : ℕ) => (cellInv ER (Rd m) κ (kcell ck) : sProp 𝕄))) $$ HI
  icases HK with ⟨%K, #HI⟩
  ihave Htk := (toks_around (F := F)) $$ Htok
  ihave Hps := hp $$ Hat
  iapply (bigSep_shared (R := records m K) fun c _ => ghost_intro m K c)
  isplitr
  · unfold records; isplitl; · iexact HI
    iexact HR
  · rw [bigSep_sep']
    isplitl [Hps]; · iexact Hps
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits dealt at launch -/

omit [FloatOps F] in
theorem dealt (sm : SemLoc sig) (r : Fin 3) (n : ℕ) (c : Dev nD) :
    (Pipeline.launchCred (fun d : Dev nD => tallyAt ((up r d : Thread nD τ), sm) () n) c : sProp 𝕄) ⊢ cred (tallyAt ((c : Thread nD τ), sm) () n) :=
  Pipeline.launchCred_tallyAt sm (up r) (dn r) (up_dn r) (dn_up r) () n c

omit [FloatOps F] in
theorem three (g : GSem nD τ sig) :
    (iprop(cred (tallyAt g () 1) ∗ cred (tallyAt g () 1) ∗ cred (tallyAt g () 1)) : sProp 𝕄) ⊢ cred (tallyAt g () 3) := by
  rw [show (tallyAt g () 3 : CellTallies nD τ sig Unit) = tallyAt g () 1 + (tallyAt g () 1 + tallyAt g () 1) by rw [tallyAt_add, tallyAt_add]]
  exact (sep_mono_right (cred_add _ _).2).trans (cred_add _ _).2

omit [FloatOps F] in
theorem creds (c : Dev nD) : (Pipeline.launchCred O₀ c : sProp 𝕄) ⊢ credits c := by
  have h (T O D : Dev nD → CellTallies nD τ sig Unit) (hT : T = fun d => O d + D d) : (Pipeline.launchCred T c : sProp 𝕄)
      ⊢ iprop(Pipeline.launchCred O c ∗ Pipeline.launchCred D c) := by rw [hT]; exact Entails.of_eq (Pipeline.launchCred_add O D c)
  unfold credits
  iintro H
  ihave H := (h O₀ B2 (fun d => tallyAt (barC (up 0 d)) () 1) rfl) $$ H
  icases H with ⟨H, Hb0⟩
  ihave H := (h B2 B3 (fun d => tallyAt (barC (up 1 d)) () 1) rfl) $$ H
  icases H with ⟨H, Hb1⟩
  ihave H := (h B3 R1 (fun d => tallyAt (barC (up 2 d)) () 1) rfl) $$ H
  icases H with ⟨H, Hb2⟩
  ihave H := (h R1 R2 (fun d => tallyAt (recvC 2 (up 0 d)) () N) rfl) $$ H
  icases H with ⟨H, Hr2⟩
  ihave H := (h R2 R3 (fun d => tallyAt (recvC 1 (up 1 d)) () N) rfl) $$ H
  icases H with ⟨H, Hr1⟩
  ihave H := (h R3 E1 (fun d => tallyAt (recvC 0 (up 2 d)) () N) rfl) $$ H
  icases H with ⟨H, Hr0⟩
  ihave H := (h E1 E2 (fun d => tallyAt (exitC (up 0 d)) () 1) rfl) $$ H
  icases H with ⟨H, He0⟩
  ihave H := (h E2 E3 (fun d => tallyAt (exitC (up 1 d)) () 1) rfl) $$ H
  icases H with ⟨H, He1⟩
  ihave H := (h E3 (fun _ => 0) (fun d => tallyAt (exitC (up 2 d)) () 1) rfl) $$ H
  icases H with ⟨-, He2⟩
  isplitl [Hb0 Hb1 Hb2]
  · iapply (three (F := F) (barC c))
    isplitl [Hb0]; · iapply (dealt (F := F) _ 0 1 c); iexact Hb0
    isplitl [Hb1]; · iapply (dealt (F := F) _ 1 1 c); iexact Hb1
    iapply (dealt (F := F) _ 2 1 c); iexact Hb2
  isplitl [He0 He1 He2]
  · iapply (three (F := F) (exitC c))
    isplitl [He0]; · iapply (dealt (F := F) _ 0 1 c); iexact He0
    isplitl [He1]; · iapply (dealt (F := F) _ 1 1 c); iexact He1
    iapply (dealt (F := F) _ 2 1 c); iexact He2
  isplitl [Hr0]; · iapply (dealt (F := F) _ 2 N c); iexact Hr0
  isplitl [Hr1]; · iapply (dealt (F := F) _ 1 N c); iexact Hr1
  iapply (dealt (F := F) _ 0 N c); iexact Hr2

/-! ## Side conditions and the run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁ zeros scratch
  iintro ⟨Hr, Hz, HzB⟩
  isplitl [HzB]; · iexact HzB
  isplitl [Hz]; · iexact Hz
  iexact Hr

theorem waits (c : Dev nD) : (levAts L lv : sProp 𝕄) ⊢ Pipeline.cellsWaits cfgs (dats m) () 0 c :=
  Pipeline.cellsWaits_intro cfgs (dats m) () 0 c fun w s t =>
    mayWait_above c _ (k := 0) (by fin_cases w <;> fin_cases s <;> decide) (by
      rcases t with ⟨_ | _, ht⟩
      · exact above_O₀ c
      · exact Above.zero 0)

def finalA (c : Dev nD) (w : Fin cfg0.W) : Buf (Elt F) ((cfg0.win w).arr.view.loc (c : Thread nD τ)) := (dats m 0 c).arrAt w cfg0.N

/-- After the run every window's array holds its final contents on every device. -/
def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From any memory with zero counters, every weakly fair execution of the four devices' @main ends with the arrays at
    their final contents and every counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Moe
end
-- ==== Proof.KernelIdeal.Ends.lean ====
/- What the run leaves in the arrays: the arguments as they were, the result array at `outB`. -/
module

public import proofs.«01_k».proof.Proof.KernelIdeal.Launch
public import Idealize.ShloMosaic.Lib.Pipeline.ValueKit

@[expose] public section

set_option maxRecDepth 16384

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Each window's one block is its whole array -/

omit [FloatOps F] in
theorem xB_eq (c : Dev nD) : xB m c = m ((c : Thread nD τ).loc main_arg0) := by
  funext i; unfold xB; blk_simp
  refine congrArg (m _) (funext fun a => Fin.ext ?_)
  have h : win0_0.index (0 : Fin 1) = fun _ => 0 := by decide
  fin_cases a <;> blk_simp [h] <;> exact Nat.zero_add _
omit [FloatOps F] in
theorem wB_eq (c : Dev nD) : wB m c = m ((c : Thread nD τ).loc main_arg1) := by
  funext i; unfold wB; blk_simp
  refine congrArg (m _) (funext fun a => Fin.ext ?_)
  have h : win0_1.index (0 : Fin 1) = fun _ => 0 := by decide
  fin_cases a <;> blk_simp [h] <;> exact Nat.zero_add _
omit [FloatOps F] in
theorem iB_eq (c : Dev nD) : iB m c = m ((c : Thread nD τ).loc main_arg2) := by
  funext i; unfold iB; blk_simp
  refine congrArg (m _) (funext fun a => Fin.ext ?_)
  have h : win0_2.index (0 : Fin 1) = fun _ => 0 := by decide
  fin_cases a <;> blk_simp [h] <;> exact Nat.zero_add _
omit [FloatOps F] in
theorem eB_eq (c : Dev nD) : eB m c = m ((c : Thread nD τ).loc main_arg3) := by
  funext i; unfold eB; blk_simp
  refine congrArg (m _) (funext fun a => Fin.ext ?_)
  have h : win0_3.index (0 : Fin 1) = fun _ => 0 := by decide
  fin_cases a <;> blk_simp [h] <;> exact Nat.zero_add _

theorem finalA_out (c : Dev nD) : finalA m c (4 : Fin 5) = outB m c := by
  unfold finalA
  refine (dats m 0 c).arrAt_eq_of_after_last 4 t0_0 (by decide +kernel) _ fun j => ?_
  rfl

theorem run_ends : θ_run defs (onTc (τ := τ) (main (F := F))) (s₀ m ρ) (fun r =>
    (∀ c : Dev nD, r.2.mem ((c : Thread nD τ).loc main_v1) = outB m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) :=
  (θ_run defs _ _).mono (fun _ h => ⟨fun c =>
    ⟨(h.1 c (4 : Fin 5)).trans (finalA_out m c),
      (h.1 c (0 : Fin 5)).trans ((dats m 0 c).arrAt_in (0 : Fin 5) rfl _),
      (h.1 c (1 : Fin 5)).trans ((dats m 0 c).arrAt_in (1 : Fin 5) rfl _),
      (h.1 c (2 : Fin 5)).trans ((dats m 0 c).arrAt_in (2 : Fin 5) rfl _),
      (h.1 c (3 : Fin 5)).trans ((dats m 0 c).arrAt_in (3 : Fin 5) rfl _)⟩, h.2⟩) (run_main m ρ)

end Cert.KernelIdeal.Moe
end
-- ==== Proof.Frames.lean ====
/- The frame claims: each program runs, leaves its arguments as they were and every semaphore at zero. -/
module

public import proofs.«01_k».proof.Defs
public import proofs.«01_k».proof.Proof.Gen.ReferenceIdeal
public import proofs.«01_k».proof.Proof.Gen.ReferenceIdeal.Run
public import proofs.«01_k».proof.Proof.Kernel.Ends
public import proofs.«01_k».proof.Proof.KernelIdeal.Ends
public import Idealize.ShloMosaic.Lib.Quiescent

@[expose] public section

noncomputable section

namespace Cert.Proof

open Idealize.ShloMosaic Idealize.SL.Sem

theorem frame_kernel : Cert.quiescent_Kernel (hKernel := Cert.Kernel.Gen.facts) := fun m g _ =>
  (θ_run Cert.Kernel.defs _ _).mono (fun _ h => ⟨fun c => (h.1 c).2, h.2⟩) (Cert.Kernel.Moe.run_ends m g)

theorem frame_kernelIdeal : Cert.quiescent_KernelIdeal (hKernelIdeal := Cert.KernelIdeal.Gen.facts) := fun m g _ =>
  (θ_run Cert.KernelIdeal.defs _ _).mono (fun _ h => ⟨fun c => (h.1 c).2, h.2⟩) (Cert.KernelIdeal.Moe.run_ends m g)

theorem frame_referenceIdeal : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run m g)

end Cert.Proof

end
-- ==== Proof.Spec.lean ====
/- The layer's mathematics, element by element, on extended reals: router probabilities, one expert's output, and the
   mixture of a token's two experts. -/
module

public import Idealize.ShloMosaic.Lib.Pointwise

@[expose] public section

noncomputable section

namespace Cert.Proof

open Idealize.ShloMosaic

/-- Token activations, router weights, and one device's or all experts' weights. -/
abbrev Tokens := FVec Ideal ⟨2, ![512, 256]⟩ .bf16
abbrev Router := FVec Ideal ⟨2, ![256, 8]⟩ .bf16
abbrev Experts (n : ℕ) := FVec Ideal ⟨3, ![n, 256, 512]⟩ .bf16

/-- The router's score of expert `e` for token `t`. -/
def score (x : Tokens) (w : Router) (t : Fin 512) (e : Fin 8) : EReal := ∑ k : Fin 256, x (ix2 t k) * w (ix2 k e)

/-- The greatest score of a token. -/
def top (x : Tokens) (w : Router) (t : Fin 512) : EReal :=
  Finset.fold max (Ideal.ofBits .f32 0xFF800000#32) (score x w t) Finset.univ

/-- The softmax over the experts. -/
def prob (x : Tokens) (w : Router) (t : Fin 512) (e : Fin 8) : EReal :=
  Ideal.div (Ideal.exp (score x w t e - top x w t)) (∑ e' : Fin 8, Ideal.exp (score x w t e' - top x w t))

/-- Expert `e`'s output for token `t`. -/
def expertOut {n : ℕ} (x : Tokens) (W : Experts n) (e : Fin n) (t h : Fin 512) : EReal :=
  ∑ k : Fin 256, x (ix2 t k) * W (ix3 e k h)

/-- The mixture of two experts, weighted by their normalised probabilities. -/
def mix (x : Tokens) (w : Router) (W : Experts 8) (e0 e1 : Fin 8) (t h : Fin 512) : EReal :=
  Ideal.div (prob x w t e0) (prob x w t e0 + prob x w t e1) * expertOut x W e0 t h
    + Ideal.div (prob x w t e1) (prob x w t e0 + prob x w t e1) * expertOut x W e1 t h

/-- What expert `e` adds to a token whose experts are `e0` and `e1`, its output being `y`: nothing unless it is one of them. -/
def share (x : Tokens) (w : Router) (e0 e1 : Fin 8) (t : Fin 512) (e : Fin 8) (y : EReal) : EReal :=
  Ideal.div (prob x w t e) (prob x w t e0 + prob x w t e1) * (if e0 = e ∨ e1 = e then 1 else 0) * y

/-- All eight experts' shares add up to the mixture of the token's two. -/
theorem sum_share (x : Tokens) (w : Router) (W : Experts 8) (e0 e1 : Fin 8) (hne : e0 ≠ e1) (t h : Fin 512) :
    ∑ e : Fin 8, share x w e0 e1 t e (expertOut x W e t h) = mix x w W e0 e1 t h := by
  have hz : ∀ e : Fin 8, e ≠ e0 ∧ e ≠ e1 → share x w e0 e1 t e (expertOut x W e t h) = 0 := fun e he => by
    unfold share
    rw [if_neg (by rintro (rfl | rfl); exacts [he.1 rfl, he.2 rfl]), mul_zero, zero_mul]
  rw [Fintype.sum_eq_add e0 e1 hne hz]
  unfold share mix
  rw [if_pos (.inl rfl), if_pos (.inr rfl), mul_one, mul_one]

end Cert.Proof

end
-- ==== Proof.KernelAcc.lean ====
/- What one device accumulates, element by element: the shares of the two experts it holds. -/
module

public import proofs.«01_k».proof.Proof.KernelIdeal.Protocol
public import proofs.«01_k».proof.Proof.Spec

@[expose] public section

noncomputable section

namespace Cert.Proof

open Idealize.ShloMosaic
open Cert.KernelIdeal Cert.KernelIdeal.Gen Cert.KernelIdeal.Moe

/-! ## Words that name experts -/

theorem word_inj (e e' : Fin 8) : (BitVec.ofNat 32 e.val = BitVec.ofNat 32 e'.val) ↔ e = e' := by
  revert e e'; decide

theorem cmpi_word (e e' : Fin 8) :
    IntOp.cmpi .eq (BitVec.ofNat 32 e.val) (BitVec.ofNat 32 e'.val) = if e = e' then 1#1 else 0#1 := by
  revert e e'; decide

/-- A sum over the experts that keeps only the one named. -/
theorem sum_pick (p : Fin 8 → EReal) (e : Fin 8) :
    ∑ k : Fin 8, Scalar.select (IntOp.cmpi .eq (BitVec.ofNat 32 k.val) (BitVec.ofNat 32 e.val)) (p k) 0 = p e := by
  rw [Finset.sum_eq_single e]
  · rw [cmpi_word, if_pos rfl]; rfl
  · intro k _ hk; rw [cmpi_word, if_neg hk]; rfl
  · intro h; exact absurd (Finset.mem_univ _) h

/-- The mask that says whether expert `e` is one of `e0` and `e1`, as a float. -/
theorem hit_word (e0 e1 e : Fin 8) :
    (FloatOps.sitofp .f32 (BitVec.setWidth 32 (IntOp.ori (IntOp.cmpi .eq (BitVec.ofNat 32 e0.val) (BitVec.ofNat 32 e.val))
        (IntOp.cmpi .eq (BitVec.ofNat 32 e1.val) (BitVec.ofNat 32 e.val)))) : Ideal .f32)
      = if e0 = e ∨ e1 = e then 1 else 0 := by
  have h1 : (FloatOps.sitofp .f32 (BitVec.setWidth 32 (1#1)) : Ideal .f32) = (1 : EReal) := by
    show (((BitVec.setWidth 32 (1#1)).toInt : ℝ) : EReal) = 1
    norm_num
  have h0 : (FloatOps.sitofp .f32 (BitVec.setWidth 32 (0#1)) : Ideal .f32) = (0 : EReal) := by
    show (((BitVec.setWidth 32 (0#1)).toInt : ℝ) : EReal) = 0
    norm_num
  rw [cmpi_word, cmpi_word]
  by_cases a : e0 = e <;> by_cases b : e1 = e
  · rw [if_pos a, if_pos b, if_pos (.inl a)]; exact h1
  · rw [if_pos a, if_neg b, if_pos (.inl a)]; exact h1
  · rw [if_neg a, if_pos b, if_pos (.inr b)]; exact h1
  · rw [if_neg a, if_neg b, if_neg (by rintro (h | h); exacts [a h, b h])]; exact h0

/-! ## The experts of a device -/

/-- The expert a device holds in place `j`. -/
def held (c : Dev nD) (j : Fin 2) : Fin 8 := ⟨2 * c.val + j.val, by have h : c.val < 4 := c.isLt; omega⟩

theorem word_held0 (c : Dev nD) : Scalar.addi (Scalar.muli (word c) 2#32) 0#32 = BitVec.ofNat 32 (held c 0).val := by
  revert c; decide +kernel
theorem word_held1 (c : Dev nD) : Scalar.addi (Scalar.muli (word c) 2#32) 1#32 = BitVec.ofNat 32 (held c 1).val := by
  revert c; decide +kernel

/-! ## The accumulator -/

theorem probs_apply (x : Tokens) (w : Router) (t : Fin 512) (e : Fin 8) : k0_pay2 (F := Ideal) x w (ix2 t e) = prob x w t e := by
  pointwise [k0_pay2, k0_pay1]
  rfl

theorem norm_apply (x : Tokens) (w : Router) (i0 i1 : Vec Ideal S512x1 .i32) (t : Fin 512) (e0 e1 : Fin 8)
    (h0 : i0 (ix2 t 0) = BitVec.ofNat 32 e0.val) (h1 : i1 (ix2 t 0) = BitVec.ofNat 32 e1.val) :
    k0_pay5 (F := Ideal) x w i0 i1 (ix2 t 0) = prob x w t e0 + prob x w t e1 := by
  pointwise [k0_pay5, k0_pay3, k0_pay4]
  rw [h0, h1]
  simp only [probs_apply]
  rw [sum_pick, sum_pick]

theorem acc_apply (c : Dev nD) (x : Tokens) (w : Router) (i0 i1 : Vec Ideal S512x1 .i32) (E0 E1 : Vec Ideal S1x256x512 .bf16)
    (t h : Fin 512) (e0 e1 : Fin 8)
    (h0 : i0 (ix2 t 0) = BitVec.ofNat 32 e0.val) (h1 : i1 (ix2 t 0) = BitVec.ofNat 32 e1.val) :
    accOf (F := Ideal) c x w i0 i1 E0 E1 (ix2 t h)
      = share x w e0 e1 t (held c 0) (expertOut x E0 0 t h) + share x w e0 e1 t (held c 1) (expertOut x E1 0 t h) := by
  have hw : Scalar.addi (Scalar.muli (Scalar.remsi (Scalar.divsi (Dev.word c) 1#32) 4#32) 2#32) 0#32
      = BitVec.ofNat 32 (held c 0).val := word_held0 c
  unfold accOf
  pointwise [k0_pay9, k0_pay8, k0_pay7, k0_pay6, k0_pay3, k0_pay4, k0_pay1]
  rw [norm_apply x w i0 i1 t e0 e1 h0 h1]
  simp only [h0, h1, hw, word_held0, word_held1, probs_apply, sum_pick, hit_word, zero_add]
  rfl

end Cert.Proof

end
-- ==== Proof.KernelOut.lean ====
/- The kernel's result on a device, element by element: the four devices' accumulators added up are the mixture. -/
module

public import proofs.«01_k».proof.Proof.KernelIdeal.Ends
public import proofs.«01_k».proof.Proof.KernelAcc
public import Idealize.ShloMosaic.Lib.Layout

@[expose] public section

noncomputable section

namespace Cert.Proof

open Idealize.ShloMosaic
open Idealize.ShloMosaic.TcCoe
open Cert.KernelIdeal Cert.KernelIdeal.Gen Cert.KernelIdeal.Moe

/-! ## The loads -/

theorem idx0_apply (f : IVec S512x2 32) (t : Fin 512) : idx0 (F := Ideal) f (ix2 t 0) = f (ix2 t 0) := by
  refine congrArg f (funext fun a => Fin.ext ?_)
  match a with
  | 0 => show 0 + 1 * t.val = t.val; omega
  | 1 => rfl
theorem idx1_apply (f : IVec S512x2 32) (t : Fin 512) : idx1 (F := Ideal) f (ix2 t 0) = f (ix2 t 1) := by
  refine congrArg f (funext fun a => Fin.ext ?_)
  match a with
  | 0 => show 0 + 1 * t.val = t.val; omega
  | 1 => rfl

theorem exp0_apply (f : FVec Ideal S2x256x512 .bf16) (d : Fin 256) (h : Fin 512) :
    exp0 (F := Ideal) f (ix3 0 d h) = f (ix3 0 d h) := by
  refine congrArg f (funext fun a => Fin.ext ?_)
  match a with
  | 0 => rfl
  | 1 => show 0 + 1 * d.val = d.val; omega
  | 2 => show 0 + 1 * h.val = h.val; omega
theorem exp1_apply (f : FVec Ideal S2x256x512 .bf16) (d : Fin 256) (h : Fin 512) :
    exp1 (F := Ideal) f (ix3 0 d h) = f (ix3 1 d h) := by
  refine congrArg f (funext fun a => Fin.ext ?_)
  match a with
  | 0 => rfl
  | 1 => show 0 + 1 * d.val = d.val; omega
  | 2 => show 0 + 1 * h.val = h.val; omega

/-- Row `r` of device `c`'s chunk, as a token. -/
def token (c : Dev nD) (r : Fin 128) : Fin 512 := ⟨128 * c.val + r.val, by have h : c.val < 4 := c.isLt; omega⟩

theorem chunk_apply (j : Fin 3) (c : Dev nD) (f : FVec Ideal S512x512 .f32) (r : Fin 128) (h : Fin 512) :
    chunk (F := Ideal) j c f (ix2 r h) = f (ix2 (token (up j c) r) h) := by
  refine congrArg f (funext fun a => Fin.ext ?_)
  match a with
  | 0 =>
    show k0_off1 c (BitVec.ofNat 32 (1 + j.val)) 0 + 1 * r.val = 128 * ((c.val + j.val + 1) % 4) + r.val
    rw [k0_off1_eq c j, Nat.one_mul]; rfl
  | 1 =>
    show k0_off1 c (BitVec.ofNat 32 (1 + j.val)) 1 + 1 * h.val = h.val
    rw [k0_off1_eq c j, Nat.one_mul]; exact Nat.zero_add _
theorem keep_apply (c : Dev nD) (f : FVec Ideal S512x512 .f32) (r : Fin 128) (h : Fin 512) :
    keep (F := Ideal) c f (ix2 r h) = f (ix2 (token c r) h) := by
  refine congrArg f (funext fun a => Fin.ext ?_)
  match a with
  | 0 =>
    show k0_off2 c 0 + 1 * r.val = 128 * c.val + r.val
    rw [k0_off2_eq c, Nat.one_mul]; rfl
  | 1 =>
    show k0_off2 c 1 + 1 * h.val = h.val
    rw [k0_off2_eq c, Nat.one_mul]; exact Nat.zero_add _

/-! ## The sum over the devices -/

/-- What device `d`'s two experts add to a token. -/
def part (x : Tokens) (w : Router) (W : Experts 8) (e0 e1 : Fin 8) (t h : Fin 512) (d : Dev nD) : EReal :=
  share x w e0 e1 t (held d 0) (expertOut x W (held d 0) t h) + share x w e0 e1 t (held d 1) (expertOut x W (held d 1) t h)

theorem sum_ring (S : Dev nD → EReal) (c : Dev nD) : S c + S (up 0 c) + S (up 1 c) + S (up 2 c) = S 0 + S 1 + S 2 + S 3 := by
  have u : ∀ (r : Fin 3) (c d : Dev nD), up r c = d → S (up r c) = S d := fun r c d h => congrArg S h
  match c with
  | 0 => rw [u 0 0 1 (by decide), u 1 0 2 (by decide), u 2 0 3 (by decide)]
  | 1 => rw [u 0 1 2 (by decide), u 1 1 3 (by decide), u 2 1 0 (by decide)]; abel
  | 2 => rw [u 0 2 3 (by decide), u 1 2 0 (by decide), u 2 2 1 (by decide)]; abel
  | 3 => rw [u 0 3 0 (by decide), u 1 3 1 (by decide), u 2 3 2 (by decide)]; abel

theorem sum_part (x : Tokens) (w : Router) (W : Experts 8) (e0 e1 : Fin 8) (hne : e0 ≠ e1) (t h : Fin 512) (c : Dev nD) :
    part x w W e0 e1 t h c + part x w W e0 e1 t h (up 0 c) + part x w W e0 e1 t h (up 1 c) + part x w W e0 e1 t h (up 2 c)
      = mix x w W e0 e1 t h := by
  rw [sum_ring (part x w W e0 e1 t h) c, ← sum_share x w W e0 e1 hne t h, Fin.sum_univ_eight]
  unfold part
  rw [show held 0 0 = 0 from rfl, show held 0 1 = 1 from rfl, show held 1 0 = 2 from rfl, show held 1 1 = 3 from rfl,
    show held 2 0 = 4 from rfl, show held 2 1 = 5 from rfl, show held 3 0 = 6 from rfl, show held 3 1 = 7 from rfl]
  abel

/-! ## The result -/

section

variable (m : (ℓ : Loc nD τ sig) → Buf (Elt Ideal) ℓ) (x : Tokens) (w : Router) (a : IVec ⟨2, ![512, 2]⟩ 32) (W : Experts 8)

/-- The arrays the devices hold are `x`, `w` and `a` on each, and `W`'s blocks. -/
def Holds : Prop := ∀ c : Dev nD,
  m ((c : Thread nD τ).loc main_arg0) = x ∧ m ((c : Thread nD τ).loc main_arg1) = w ∧ m ((c : Thread nD τ).loc main_arg2) = a
    ∧ m ((c : Thread nD τ).loc main_arg3) = Layout.block ⟨3, ![2, 256, 512]⟩ ⟨3, ![8, 256, 512]⟩ 0 4 c W

variable {m x w a W} (hm : Holds m x w a W)
include hm

theorem block_apply (c : Dev nD) (j : Fin 2) (d : Fin 256) (h : Fin 512) :
    (eB m c : FVec Ideal S2x256x512 .bf16) (ix3 j d h) = W (ix3 (held c j) d h) := by
  rw [eB_eq, (hm c).2.2.2]
  refine congrArg W (funext fun b => Fin.ext ?_)
  match b with
  | 0 => show c.val * 2 + j.val = 2 * c.val + j.val; omega
  | 1 => rfl
  | 2 => rfl

theorem accB_apply (c : Dev nD) (t h : Fin 512) (e0 e1 : Fin 8)
    (h0 : a (ix2 t 0) = BitVec.ofNat 32 e0.val) (h1 : a (ix2 t 1) = BitVec.ofNat 32 e1.val) :
    (accB m c : FVec Ideal S512x512 .f32) (ix2 t h) = part x w W e0 e1 t h c := by
  have hx : xB m c = x := (xB_eq m c).trans (hm c).1
  have hw : wB m c = w := (wB_eq m c).trans (hm c).2.1
  have ha : iB m c = a := (iB_eq m c).trans (hm c).2.2.1
  unfold accB
  rw [hx, hw, ha]
  refine (acc_apply c x w (idx0 a) (idx1 a) (exp0 (eB m c)) (exp1 (eB m c)) t h e0 e1
    ((idx0_apply a t).trans h0) ((idx1_apply a t).trans h1)).trans ?_
  have y0 : expertOut x (n := 1) (exp0 (eB m c)) 0 t h = expertOut x W (held c 0) t h :=
    Finset.sum_congr rfl fun k _ => congrArg (x (ix2 t k) * ·) ((exp0_apply (eB m c) k h).trans (block_apply hm c 0 k h))
  have y1 : expertOut x (n := 1) (exp1 (eB m c)) 0 t h = expertOut x W (held c 1) t h :=
    Finset.sum_congr rfl fun k _ => congrArg (x (ix2 t k) * ·) ((exp1_apply (eB m c) k h).trans (block_apply hm c 1 k h))
  rw [y0, y1]
  rfl

theorem arrived_apply (j : Fin 3) (c : Dev nD) (r : Fin 128) (h : Fin 512) (e0 e1 : Fin 8)
    (h0 : a (ix2 (token c r) 0) = BitVec.ofNat 32 e0.val) (h1 : a (ix2 (token c r) 1) = BitVec.ofNat 32 e1.val) :
    (arrived m j c : FVec Ideal S1x128x512 .bf16) (ix3 0 r h) = part x w W e0 e1 (token c r) h (up j c) := by
  unfold arrived sent
  pointwise [k0_pay10]
  refine (chunk_apply j.rev (up j c) (accB m (up j c)) r h).trans ?_
  rw [up_rev_up]
  exact accB_apply hm (up j c) (token c r) h e0 e1 h0 h1

theorem outB_apply (c : Dev nD) (r : Fin 128) (h : Fin 512) (e0 e1 : Fin 8) (hne : e0 ≠ e1)
    (h0 : a (ix2 (token c r) 0) = BitVec.ofNat 32 e0.val) (h1 : a (ix2 (token c r) 1) = BitVec.ofNat 32 e1.val) :
    (outB m c : FVec Ideal S128x512 .f32) (ix2 r h) = mix x w W e0 e1 (token c r) h := by
  unfold outB
  pointwise [k0_pay14, k0_pay13]
  rw [arrived_apply hm 0 c r h e0 e1 h0 h1, arrived_apply hm 1 c r h e0 e1 h0 h1, arrived_apply hm 2 c r h e0 e1 h0 h1,
    keep_apply, accB_apply hm c (token c r) h e0 e1 h0 h1]
  exact sum_part x w W e0 e1 hne (token c r) h c

end

end Cert.Proof

end
-- ==== Proof.Pre.lean ====
/- What the precondition says: of every token, its two expert numbers are below eight and differ. -/
module

public import proofs.«01_k».proof.Defs
public import Idealize.ShloMosaic.Lib.Pointwise
public import Idealize.ShloMosaic.Lib.StableHlo.Predicate

@[expose] public section

noncomputable section

namespace Cert.Proof

open Idealize.ShloMosaic

/-! ## The shapes the precondition's operations take -/

theorem preFactsK : Cert.Pre_two_experts_KernelIdeal.Facts where
  slices_S512x2_S512x1_0_0 := by decide
  slices_S512x2_S512x1_0_1 := by decide
  bcast_S_S512x2 := by decide

theorem preFactsR : Cert.Pre_two_experts_ReferenceIdeal.Facts where
  slices_S512x2_S512x1_0_0 := by decide
  slices_S512x2_S512x1_0_1 := by decide
  bcast_S_S512x2 := by decide

/-! ## What it says -/

/-- A word that is neither negative nor past seven is the word of an expert. -/
theorem expert_of_word (w : BitVec 32) (h : IntOp.andi (IntOp.cmpi .sge w 0#32) (IntOp.cmpi .slt w 8#32) = 1#1) :
    ∃ e : Fin 8, w = BitVec.ofNat 32 e.val := by
  have h' : (0#32).sle w = true ∧ w.slt 8#32 = true := by
    revert h; unfold IntOp.andi IntOp.cmpi
    cases (0#32).sle w <;> cases w.slt 8#32 <;> simp [BitVec.ofBool]
  obtain ⟨h0, h8⟩ := h'
  rw [BitVec.sle, decide_eq_true_eq] at h0
  rw [BitVec.slt, decide_eq_true_eq] at h8
  have e0 : (0#32 : BitVec 32).toInt = 0 := by decide
  have e8 : (8#32 : BitVec 32).toInt = 8 := by decide
  rw [e0] at h0; rw [e8] at h8
  have hn : w.toNat < 8 := by
    rw [BitVec.toInt_eq_msb_cond] at h0 h8
    split at h0 <;> rename_i hm
    · have := w.isLt; omega
    · rw [if_neg hm] at h8; omega
  exact ⟨⟨w.toNat, hn⟩, by simp⟩

/-- One token's two expert numbers, as the precondition has them. -/
theorem two_experts [Cert.Pre_two_experts_KernelIdeal.Facts] (x : FVec Ideal ⟨2, ![512, 256]⟩ .bf16) (rw : FVec Ideal ⟨2, ![256, 8]⟩ .bf16)
    (a : IVec ⟨2, ![512, 2]⟩ 32) (w : FVec Ideal ⟨3, ![2, 256, 512]⟩ .bf16)
    (h1 : (Cert.Pre_two_experts_KernelIdeal.fn (F := Ideal) x rw a w).1 = fun _ => 1#1)
    (h2 : (Cert.Pre_two_experts_KernelIdeal.fn (F := Ideal) x rw a w).2 = fun _ => 1#1) (t : Fin 512) :
    ∃ e0 e1 : Fin 8, e0 ≠ e1 ∧ a (ix2 t 0) = BitVec.ofNat 32 e0.val ∧ a (ix2 t 1) = BitVec.ofNat 32 e1.val := by
  have r0 := congrFun h1 (ix2 t 0)
  have r1 := congrFun h1 (ix2 t 1)
  have d := congrFun h2 (ix2 t 0)
  simp only [Cert.Pre_two_experts_KernelIdeal.fn] at r0 r1 d
  pointwise at r0
  pointwise at r1
  pointwise at d
  obtain ⟨e0, h0⟩ := expert_of_word _ r0
  obtain ⟨e1, h1'⟩ := expert_of_word _ r1
  refine ⟨e0, e1, fun he => ?_, h0, h1'⟩
  rw [h0, h1', he] at d
  simp [IntOp.cmpi] at d

end Cert.Proof

end
-- ==== Proof.RefGather.lean ====
/- The reference's two lookups at an in-range expert number: a token's probability of that expert, and that expert's
   whole weight matrix. -/
module

public import proofs.«01_k».proof.Proof.Gen.ReferenceIdeal
public import Idealize.ShloMosaic.Lib.Pointwise

@[expose] public section

noncomputable section

namespace Cert.Proof

open Idealize.ShloMosaic
open Cert.ReferenceIdeal Cert.ReferenceIdeal.Gen

/-- An expert number read as a start and kept below eight is itself. -/
theorem clamp_word (e : Fin 8) : min (BitVec.ofNat 32 e.val).toInt.toNat 7 = e.val := by
  revert e; decide

/-- The lookup of a probability: row `t`, column the expert named at row `t`. -/
theorem pick_apply (P : S512x8.Idx → EReal) (idx : IVec S512x1x1 32) (t : Fin 512) (e : Fin 8)
    (h : idx (ix3 t 0 0) = BitVec.ofNat 32 e.val) :
    Host.gather gather_S512x8_S512x1x1_S512x1_n_1_0_0_1_2_11 P idx (ix2 t 0) = P (ix2 t e) := by
  refine congrArg P (funext fun a => Fin.ext ?_)
  let d := gather_S512x8_S512x1x1_S512x1_n_1_0_0_1_2_11
  show d.start (ix2 t 0) idx a + d.batchCoord (ix2 t 0) a + d.offCoord (ix2 t 0) a = _
  match a with
  | 0 =>
    rw [d.start_batching _ _ 0 (by decide), d.offCoord_eq_zero _ 0 (by rw [d.mem_sKept]; decide), Nat.zero_add, Nat.add_zero]
    rfl
  | 1 =>
    rw [d.batchCoord_eq_zero _ 1 (by decide), d.offCoord_eq_zero _ 1 (by rw [d.mem_sKept]; decide)]
    have hs : d.siIdx (ix2 t 0) ⟨0, by decide⟩ = ix3 t 0 0 := by
      funext b; match b with
      | 0 => rfl
      | 1 => rfl
      | 2 => rfl
    show min (idx (d.siIdx (ix2 t 0) ⟨0, _⟩)).toInt.toNat 7 = e.val
    rw [hs, h, clamp_word]

/-- The lookup of weights: plane `t` of the result is the matrix of the expert named at row `t`. -/
theorem take_apply (W : S8x256x512.Idx → EReal) (idx : IVec S512x1 32) (t : Fin 512) (k : Fin 256) (h : Fin 512) (e : Fin 8)
    (he : idx (ix2 t 0) = BitVec.ofNat 32 e.val) :
    Host.gather gather_S8x256x512_S512x1_S512x256x512_12_0_n_n_0_1_1256512 W idx (ix3 t k h) = W (ix3 e k h) := by
  refine congrArg W (funext fun a => Fin.ext ?_)
  let d := gather_S8x256x512_S512x1_S512x256x512_12_0_n_n_0_1_1256512
  show d.start (ix3 t k h) idx a + d.batchCoord (ix3 t k h) a + d.offCoord (ix3 t k h) a = _
  rw [d.batchCoord_eq_zero _ a List.not_mem_nil]
  match a with
  | 0 =>
    rw [d.offCoord_eq_zero _ 0 (by rw [d.mem_sKept]; decide)]
    have hs : d.siIdx (ix3 t k h) ⟨0, by decide⟩ = ix2 t 0 := by
      funext b; match b with
      | 0 => rfl
      | 1 => rfl
    show min (idx (d.siIdx (ix3 t k h) ⟨0, _⟩)).toInt.toNat 7 = e.val
    rw [hs, he, clamp_word]
  | 1 =>
    show 0 + 0 + k.val = k.val
    omega
  | 2 =>
    show 0 + 0 + h.val = h.val
    omega

end Cert.Proof

end
-- ==== Proof.RefPieces.lean ====
/- The reference's result in pieces: router probabilities, the probability and the output of one of a token's two
   experts, and the weighted sum of the two. -/
module

public import proofs.«01_k».proof.Proof.RefGather
public import proofs.«01_k».proof.Proof.Spec

@[expose] public section

noncomputable section

namespace Cert.Proof

open Idealize.ShloMosaic
open Cert.ReferenceIdeal Cert.ReferenceIdeal.Gen

/-- The router's scores. -/
def rScore (x : Tokens) (w : Router) : FVec Ideal S512x8 .f32 :=
  Host.dotGeneral dot_S512x256_S256x8_S512x8_1_0_0_1_n_n none (extf .f32 x bitsLt_bf16_f32) (extf .f32 w bitsLt_bf16_f32)

/-- The exponentials of the scores less their row's greatest. -/
def rExp (x : Tokens) (w : Router) : FVec Ideal S512x8 .f32 :=
  Host.exp (subf (rScore x w) (broadcastInDim S512x8 ![0, 1] bcast_S512x1_S512x8_0_1 (broadcastInDim S512x1 ![0] bcast_S512_S512x1_0
    (Host.reduce FloatOps.maximumf (rScore x w) (constant S_ .f32 0xFF800000#32) reducesTo_S512x8_S512_d1 h_S_))))

/-- The probabilities. -/
def rProb (x : Tokens) (w : Router) : FVec Ideal S512x8 .f32 :=
  Host.divf (rExp x w) (broadcastInDim S512x8 ![0, 1] bcast_S512x1_S512x8_0_1 (broadcastInDim S512x1 ![0] bcast_S512_S512x1_0
    (Host.reduceAdd (rExp x w) (constant S_ .f32 0x00000000#32) reducesTo_S512x8_S512_d1 h_S_)))

/-- A column of expert numbers, a negative one wrapped, as starts for the first lookup. -/
def rStart (i : IVec S512x1 32) : IVec S512x1x1 32 :=
  shapeCast _ (select (cmpi .slt i (broadcastInDim S512x1 ![] bcast_S_S512x1 (constantI S_ 32 0#32)))
    (addi i (broadcastInDim S512x1 ![] bcast_S_S512x1 (constantI S_ 32 8#32))) i) shapeCasts_S512x1_S512x1x1

/-- Which starts are in range. -/
def rIn (s : IVec S512x1x1 32) : IVec S512x1 1 :=
  Host.reduce IntOp.andi (andi (cmpi .sge s (broadcastInDim S512x1x1 ![] bcast_S_S512x1x1 (constantI S_ 32 0#32)))
    (cmpi .sle s (broadcastInDim S512x1x1 ![0, 1, 2] bcast_S1x1x1_S512x1x1_0_1_2 (broadcastInDim S1x1x1 ![2] bcast_S1_S1x1x1_2 (constantI S1 32 7#32)))))
    (constantI S_ 1 1#1) reducesTo_S512x1x1_S512x1_d2 h_S_

/-- The probability of each token's expert, out of the probabilities `P`. -/
def rPick (P : FVec Ideal S512x8 .f32) (i : IVec S512x1 32) : FVec Ideal S512x1 .f32 :=
  select (rIn (rStart i)) (Host.gather gather_S512x8_S512x1x1_S512x1_n_1_0_0_1_2_11 P (rStart i))
    (broadcastInDim S512x1 ![] bcast_S_S512x1 (constant S_ .f32 0x7FC00000#32))

/-- A row of expert numbers, a negative one wrapped, as starts for the second lookup. -/
def rRow (i : IVec S512 32) : IVec S512x1 32 :=
  broadcastInDim S512x1 ![0] bcast_S512_S512x1_0 (select (cmpi .slt i (broadcastInDim S512 ![] bcast_S_S512 (constantI S_ 32 0#32)))
    (addi i (broadcastInDim S512 ![] bcast_S_S512 (constantI S_ 32 8#32))) i)

/-- Each token's output of its expert. -/
def rOut (x : Tokens) (W : Experts 8) (i : IVec S512 32) : FVec Ideal S512x512 .f32 :=
  Host.dotGeneral dot_S512x256_S512x256x512_S512x512_1_1_n_2_0_0 none (extf .f32 x bitsLt_bf16_f32)
    (Host.gather gather_S8x256x512_S512x1_S512x256x512_12_0_n_n_0_1_1256512 (extf .f32 W bitsLt_bf16_f32) (rRow i))

/-- The weighted sum of two experts' outputs. -/
def rMix (g0 g1 : FVec Ideal S512x1 .f32) (y0 y1 : FVec Ideal S512x512 .f32) : FVec Ideal S512x512 .f32 :=
  addf (mulf (broadcastInDim S512x512 ![0, 1] bcast_S512x1_S512x512_0_1 (Host.divf g0 (addf g0 g1))) y0)
    (mulf (broadcastInDim S512x512 ![0, 1] bcast_S512x1_S512x512_0_1 (Host.divf g1 (addf g0 g1))) y1)

/-- The first and the second column of expert numbers. -/
def rIdx0 (a : IVec S512x2 32) : IVec S512x1 32 := extractStridedSlice S512x1 ![0, 0] a slices_S512x2_S512x1_0_0
def rIdx1 (a : IVec S512x2 32) : IVec S512x1 32 := extractStridedSlice S512x1 ![0, 1] a slices_S512x2_S512x1_0_1

/-- The whole result. -/
def rAll (x : Tokens) (w : Router) (a : IVec S512x2 32) (W : Experts 8) : FVec Ideal S512x512 .f32 :=
  rMix (rPick (rProb x w) (rIdx0 a)) (rPick (rProb x w) (rIdx1 a))
    (rOut x W (shapeCast _ (rIdx0 a) shapeCasts_S512x1_S512)) (rOut x W (shapeCast _ (rIdx1 a) shapeCasts_S512x1_S512))

/-! ## Each piece at an index -/

theorem rScore_apply (x : Tokens) (w : Router) (t : Fin 512) (e : Fin 8) : rScore x w (ix2 t e) = score x w t e := by
  pointwise [rScore]
  rfl

theorem rExp_apply (x : Tokens) (w : Router) (t : Fin 512) (e : Fin 8) :
    rExp x w (ix2 t e) = Ideal.exp (score x w t e - top x w t) := by
  pointwise [rExp]
  simp only [rScore_apply]
  rfl

theorem rProb_apply (x : Tokens) (w : Router) (t : Fin 512) (e : Fin 8) : rProb x w (ix2 t e) = prob x w t e := by
  pointwise [rProb]
  simp only [rExp_apply]
  rfl

/-- An in-range number is not wrapped. -/
theorem wrap_word (e : Fin 8) :
    Scalar.select (IntOp.cmpi .slt (BitVec.ofNat 32 e.val) 0#32) (IntOp.addi (BitVec.ofNat 32 e.val) 8#32) (BitVec.ofNat 32 e.val)
      = BitVec.ofNat 32 e.val := by
  revert e; decide

theorem range_word (e : Fin 8) :
    IntOp.andi (IntOp.cmpi .sge (BitVec.ofNat 32 e.val) 0#32) (IntOp.cmpi .sle (BitVec.ofNat 32 e.val) 7#32) = 1#1 := by
  revert e; decide

theorem rStart_apply (i : IVec S512x1 32) (t : Fin 512) (e : Fin 8) (h : i (ix2 t 0) = BitVec.ofNat 32 e.val) :
    rStart i (ix3 t 0 0) = BitVec.ofNat 32 e.val := by
  pointwise [rStart]
  rw [h]
  exact wrap_word e

theorem rIn_apply (s : IVec S512x1x1 32) (t : Fin 512) (e : Fin 8) (h : s (ix3 t 0 0) = BitVec.ofNat 32 e.val) :
    rIn s (ix2 t 0) = 1#1 := by
  pointwise [rIn]
  rw [Finset.univ_unique, Finset.fold_singleton]
  show IntOp.andi (IntOp.andi (IntOp.cmpi .sge (s (ix3 t 0 0)) 0#32) (IntOp.cmpi .sle (s (ix3 t 0 0)) 7#32)) 1#1 = 1#1
  rw [h, range_word]
  rfl

theorem rRow_apply (i : IVec S512 32) (t : Fin 512) (e : Fin 8) (h : i (ix1 t) = BitVec.ofNat 32 e.val) :
    rRow i (ix2 t 0) = BitVec.ofNat 32 e.val := by
  pointwise [rRow]
  rw [h]
  exact wrap_word e

theorem rPick_apply (P : FVec Ideal S512x8 .f32) (i : IVec S512x1 32) (t : Fin 512) (e : Fin 8)
    (h : i (ix2 t 0) = BitVec.ofNat 32 e.val) : rPick P i (ix2 t 0) = P (ix2 t e) := by
  show Scalar.select (rIn (rStart i) (ix2 t 0)) (Host.gather gather_S512x8_S512x1x1_S512x1_n_1_0_0_1_2_11 P (rStart i) (ix2 t 0)) _ = _
  rw [rIn_apply _ t e (rStart_apply i t e h), pick_apply P _ t e (rStart_apply i t e h)]
  rfl

theorem rOut_apply (x : Tokens) (W : Experts 8) (i : IVec S512 32) (t h : Fin 512) (e : Fin 8)
    (he : i (ix1 t) = BitVec.ofNat 32 e.val) : rOut x W i (ix2 t h) = expertOut x W e t h := by
  pointwise [rOut]
  simp only [take_apply _ _ t _ h e (rRow_apply i t e he)]
  rfl

theorem rAll_apply (x : Tokens) (w : Router) (a : IVec S512x2 32) (W : Experts 8) (t h : Fin 512) (e0 e1 : Fin 8)
    (h0 : a (ix2 t 0) = BitVec.ofNat 32 e0.val) (h1 : a (ix2 t 1) = BitVec.ofNat 32 e1.val) :
    rAll x w a W (ix2 t h) = mix x w W e0 e1 t h := by
  have i0 : rIdx0 a (ix2 t 0) = BitVec.ofNat 32 e0.val := by pointwise [rIdx0]; exact h0
  have i1 : rIdx1 a (ix2 t 0) = BitVec.ofNat 32 e1.val := by pointwise [rIdx1]; exact h1
  have j0 : (shapeCast S512 (rIdx0 a) shapeCasts_S512x1_S512) (ix1 t) = BitVec.ofNat 32 e0.val := by pointwise []; exact i0
  have j1 : (shapeCast S512 (rIdx1 a) shapeCasts_S512x1_S512) (ix1 t) = BitVec.ofNat 32 e1.val := by pointwise []; exact i1
  pointwise [rAll, rMix]
  rw [rPick_apply _ _ t e0 i0, rPick_apply _ _ t e1 i1, rOut_apply x W _ t h e0 j0, rOut_apply x W _ t h e1 j1]
  simp only [rProb_apply]
  rfl

end Cert.Proof

end
-- ==== Proof.Value.lean ====
/- The value claim: each device's result is its block of rows of the reference's result. -/
module

public import proofs.«01_k».proof.Defs
public import proofs.«01_k».proof.Proof.Gen.ReferenceIdeal.Run
public import proofs.«01_k».proof.Proof.KernelIdeal.Ends
public import proofs.«01_k».proof.Proof.KernelOut
public import proofs.«01_k».proof.Proof.Pre
public import proofs.«01_k».proof.Proof.RefPieces

@[expose] public section

noncomputable section

namespace Cert.Proof

open Idealize.ShloMosaic Idealize.SL.Sem

/-- The reference's result is the whole of its pieces. -/
theorem res_eq (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v44 m' c
      = rAll (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3)) := by
  unfold Cert.ReferenceIdeal.Value.res_main_v44 rAll rMix rPick rOut rIn rStart rRow rIdx0 rIdx1 rProb rExp rScore
  rfl

/-- A device's result, from arrays that are the whole ones or its block of the experts' weights. -/
theorem out_block {m : (ℓ : Loc Cert.KernelIdeal.nD Cert.KernelIdeal.τ Cert.KernelIdeal.sig) → Buf (Elt Ideal) ℓ}
    {x : Tokens} {w : Router} {a : IVec ⟨2, ![512, 2]⟩ 32} {W : Experts 8} (hm : Holds m x w a W)
    (ha : ∀ t : Fin 512, ∃ e0 e1 : Fin 8, e0 ≠ e1 ∧ a (ix2 t 0) = BitVec.ofNat 32 e0.val ∧ a (ix2 t 1) = BitVec.ofNat 32 e1.val)
    (c : Dev Cert.KernelIdeal.nD) :
    (Cert.KernelIdeal.Moe.outB m c : FVec Ideal ⟨2, ![128, 512]⟩ .f32) = Layout.block ⟨2, ![128, 512]⟩ ⟨2, ![512, 512]⟩ 0 4 c (rAll x w a W) := by
  funext i
  obtain ⟨e0, e1, hne, h0, h1⟩ := ha (token c (i 0))
  rw [eq_ix2 i]
  refine (outB_apply hm c (i 0) (i 1) e0 e1 hne h0 h1).trans ((rAll_apply x w a W (token c (i 0)) (i 1) e0 e1 h0 h1).symm.trans ?_)
  refine congrArg (rAll x w a W) (funext fun b => Fin.ext ?_)
  match b with
  | 0 => show 128 * c.val + (i 0).val = c.val * 128 + (i 0).val; omega
  | 1 => rfl

theorem value : Cert.algebraic_KernelIdeal_ReferenceIdeal_pre_two_experts_KernelIdeal
    (hKernelIdeal := Cert.KernelIdeal.Gen.facts) (hReferenceIdeal := Cert.ReferenceIdeal.Gen.facts)
    (hPre_two_experts_KernelIdeal := preFactsK) := by
  intro m g m' g' hpre harg
  refine ⟨Cert.ReferenceIdeal.Value.res_main_v44 m' 0, ?_, ?_⟩
  · refine (θ_run Cert.KernelIdeal.defs _ _).mono (fun r h c => ⟨(h.1 c).1.trans ?_, (h.1 c).2⟩) (Cert.KernelIdeal.Moe.run_ends m g)
    rw [res_eq]
    refine out_block harg (fun t => ?_) c
    have hp := hpre c
    rw [(harg c).2.2.1] at hp
    exact @two_experts preFactsK _ _ _ _ hp.1 hp.2 t
  · exact (θ_run Cert.ReferenceIdeal.defs _ _).mono (fun r h => h 0) (Cert.ReferenceIdeal.Value.run m' g')

end Cert.Proof

end
-- ==== Proof.lean ====
module

public import proofs.«01_k».proof.Defs
public import proofs.«01_k».proof.Proof.Frames
public import proofs.«01_k».proof.Proof.Value

@[expose] public section

noncomputable section

namespace Cert.Proof

theorem claim : Cert.Claim :=
  ⟨Cert.Kernel.Gen.facts, Cert.KernelIdeal.Gen.facts, Cert.ReferenceIdeal.Gen.facts, preFactsK, preFactsR,
    frame_kernel, frame_kernelIdeal, fun m g _ => frame_kernelIdeal m g trivial,
    frame_referenceIdeal, fun m g _ => frame_referenceIdeal m g trivial, trivial, value⟩

end Cert.Proof

end
